-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x16384 : Shape := ⟨3, ![4, 2048, 16384]⟩
abbrev S16384 : Shape := ⟨1, ![16384]⟩
abbrev S1024x8x16384 : Shape := ⟨3, ![1024, 8, 16384]⟩
abbrev S1x16384 : Shape := ⟨2, ![1, 16384]⟩
abbrev S8192x16384 : Shape := ⟨2, ![8192, 16384]⟩
abbrev S4x2048 : Shape := ⟨2, ![4, 2048]⟩
abbrev S16x8x16384 : Shape := ⟨3, ![16, 8, 16384]⟩
abbrev S128x16384 : Shape := ⟨2, ![128, 16384]⟩
abbrev S16x8x128 : Shape := ⟨3, ![16, 8, 128]⟩
abbrev S1x8x256 : Shape := ⟨3, ![1, 8, 256]⟩
abbrev S8x256 : Shape := ⟨2, ![8, 256]⟩
abbrev S8x128 : Shape := ⟨2, ![8, 128]⟩
abbrev S1x8x128 : Shape := ⟨3, ![1, 8, 128]⟩
abbrev S16x8 : Shape := ⟨2, ![16, 8]⟩
abbrev S16x8x1 : Shape := ⟨3, ![16, 8, 1]⟩
abbrev S1x256 : Shape := ⟨2, ![1, 256]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x128 : Shape := ⟨2, ![1, 128]⟩
abbrev S4x128 : Shape := ⟨2, ![4, 128]⟩
abbrev S4x8x128 : Shape := ⟨3, ![4, 8, 128]⟩
abbrev S32x128 : Shape := ⟨2, ![32, 128]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x16384, .bf16⟩
  | .hbm, ⟨1, _⟩ => ⟨S4x2048x16384, .bf16⟩
  | .hbm, ⟨2, _⟩ => ⟨S16384, .f32⟩
  | .hbm, ⟨3, _⟩ => ⟨S1024x8x16384, .bf16⟩
  | .hbm, ⟨4, _⟩ => ⟨S1024x8x16384, .bf16⟩
  | .hbm, ⟨5, _⟩ => ⟨S1x16384, .f32⟩
  | .hbm, ⟨6, _⟩ => ⟨S1024x8x16384, .bf16⟩
  | .hbm, ⟨7, _⟩ => ⟨S8192x16384, .fp8e4m3⟩
  | .hbm, ⟨8, _⟩ => ⟨S4x2048, .f32⟩
  | .local _ .vmem, ⟨0, _⟩ => ⟨S16x8x16384, .bf16⟩
  | .local _ .vmem, ⟨1, _⟩ => ⟨S16x8x16384, .bf16⟩
  | .local _ .vmem, ⟨2, _⟩ => ⟨S16x8x16384, .bf16⟩
  | .local _ .vmem, ⟨3, _⟩ => ⟨S16x8x16384, .bf16⟩
  | .local _ .vmem, ⟨4, _⟩ => ⟨S1x16384, .f32⟩
  | .local _ .vmem, ⟨5, _⟩ => ⟨S16x8x16384, .bf16⟩
  | .local _ .vmem, ⟨6, _⟩ => ⟨S16x8x16384, .bf16⟩
  | .local _ .vmem, ⟨7, _⟩ => ⟨S128x16384, .fp8e4m3⟩
  | .local _ .vmem, ⟨8, _⟩ => ⟨S128x16384, .fp8e4m3⟩
  | .local _ .vmem, ⟨9, _⟩ => ⟨S4x2048, .f32⟩
  | .local _ .vmem, ⟨10, _⟩ => ⟨S128x16384, .f32⟩
  | .local _ .vmem, ⟨11, _⟩ => ⟨S16x8x128, .f32⟩
  | _, _ => ⟨S4x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v116 : Index := Scalar.indexCast arg9
  let c0_51 : Index := 0#32
  let c0_52 : Index := 0#32
  ![v116.toNat, 0, 0]
def k0_off2 (k0_t1 : Fin k0_t1_loop.trips) : Fin 3 → Nat :=
  let c0_i32 : BitVec 32 := 0#32
  let c1_i32 : BitVec 32 := 1#32
  let arg9 : BitVec 32 := Scf.iv c0_i32 c1_i32 k0_t1
  let v132 : Index := Scalar.indexCast arg9
  let c0_57 : Index := 0#32
  let c256 : Index := 256#32
  ![v132.toNat, 0, 256]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v149 : Index := Scalar.indexCast arg9
  let c0_62 : Index := 0#32
  let c512 : Index := 512#32
  ![v149.toNat, 0, 512]
def k0_off4 (k0_t1 : Fin k0_t1_loop.trips) : Fin 3 → Nat :=
  let c0_i32 : BitVec 32 := 0#32
  let c1_i32 : BitVec 32 := 1#32
  let arg9 : BitVec 32 := Scf.iv c0_i32 c1_i32 k0_t1
  let v166 : Index := Scalar.indexCast arg9
  let c0_67 : Index := 0#32
  let c768 : Index := 768#32
  ![v166.toNat, 0, 768]
def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let v183 : Index := Scalar.indexCast arg9
  let c0_72 : Index := 0#32
  let c1024 : Index := 1024#32
  ![v183.toNat, 0, 1024]
def k0_off6 (k0_t1 : Fin k0_t1_loop.trips) : Fin 3 → Nat :=
  let c0_i32 : BitVec 32 := 0#32
  let c1_i32 : BitVec 32 := 1#32
  let arg9 : BitVec 32 := Scf.iv c0_i32 c1_i32 k0_t1
  let v200 : Index := Scalar.indexCast arg9
  let c0_77 : Index := 0#32
  let c1280 : Index := 1280#32
  ![v200.toNat, 0, 1280]
def k0_off7 (k0_t1 : Fin k0_t1_loop.trips) : Fin 3 → Nat :=
  let c0_i32 : BitVec 32 := 0#32
  let c1_i32 : BitVec 32 := 1#32
  let arg9 : BitVec 32 := Scf.iv c0_i32 c1_i32 k0_t1
  let v217 : Index := Scalar.indexCast arg9
  let c0_82 : Index := 0#32
  let c1536 : Index := 1536#32
  ![v217.toNat, 0, 1536]
def k0_off8 (k0_t1 : Fin k0_t1_loop.trips) : Fin 3 → Nat :=
  let c0_i32 : BitVec 32 := 0#32
  let c1_i32 : BitVec 32 := 1#32
  let arg9 : BitVec 32 := Scf.iv c0_i32 c1_i32 k0_t1
  let v234 : Index := Scalar.indexCast arg9
  let c0_87 : Index := 0#32
  let c1792 : Index := 1792#32
  ![v234.toNat, 0, 1792]
def k0_off9 (k0_t1 : Fin k0_t1_loop.trips) : Fin 3 → Nat :=
  let c0_i32 : BitVec 32 := 0#32
  let c1_i32 : BitVec 32 := 1#32
  let arg9 : BitVec 32 := Scf.iv c0_i32 c1_i32 k0_t1
  let v251 : Index := Scalar.indexCast arg9
  let c0_92 : Index := 0#32
  let c2048 : Index := 2048#32
  ![v251.toNat, 0, 2048]
def k0_off10 (k0_t1 : Fin k0_t1_loop.trips) : Fin 3 → Nat :=
  let c0_i32 : BitVec 32 := 0#32
  let c1_i32 : BitVec 32 := 1#32
  let arg9 : BitVec 32 := Scf.iv c0_i32 c1_i32 k0_t1
  let v268 : Index := Scalar.indexCast arg9
  let c0_97 : Index := 0#32
  let c2304 : Index := 2304#32
  ![v268.toNat, 0, 2304]
def k0_off11 (k0_t1 : Fin k0_t1_loop.trips) : Fin 3 → Nat :=
  let c0_i32 : BitVec 32 := 0#32
  let c1_i32 : BitVec 32 := 1#32
  let arg9 : BitVec 32 := Scf.iv c0_i32 c1_i32 k0_t1
  let v285 : Index := Scalar.indexCast arg9
  let c0_102 : Index := 0#32
  let c2560 : Index := 2560#32
  ![v285.toNat, 0, 2560]
def k0_off12 (k0_t1 : Fin k0_t1_loop.trips) : Fin 3 → Nat :=
  let c0_i32 : BitVec 32 := 0#32
  let c1_i32 : BitVec 32 := 1#32
  let arg9 : BitVec 32 := Scf.iv c0_i32 c1_i32 k0_t1
  let v302 : Index := Scalar.indexCast arg9
  let c0_107 : Index := 0#32
  let c2816 : Index := 2816#32
  ![v302.toNat, 0, 2816]
def k0_off13 (k0_t1 : Fin k0_t1_loop.trips) : Fin 3 → Nat :=
  let c0_i32 : BitVec 32 := 0#32
  let c1_i32 : BitVec 32 := 1#32
  let arg9 : BitVec 32 := Scf.iv c0_i32 c1_i32 k0_t1
  let v319 : Index := Scalar.indexCast arg9
  let c0_112 : Index := 0#32
  let c3072 : Index := 3072#32
  ![v319.toNat, 0, 3072]
def k0_off14 (k0_t1 : Fin k0_t1_loop.trips) : Fin 3 → Nat :=
  let c0_i32 : BitVec 32 := 0#32
  let c1_i32 : BitVec 32 := 1#32
  let arg9 : BitVec 32 := Scf.iv c0_i32 c1_i32 k0_t1
  let v336 : Index := Scalar.indexCast arg9
  let c0_117 : Index := 0#32
  let c3328 : Index := 3328#32
  ![v336.toNat, 0, 3328]
def k0_off15 (k0_t1 : Fin k0_t1_loop.trips) : Fin 3 → Nat :=
  let c0_i32 : BitVec 32 := 0#32
  let c1_i32 : BitVec 32 := 1#32
  let arg9 : BitVec 32 := Scf.iv c0_i32 c1_i32 k0_t1
  let v353 : Index := Scalar.indexCast arg9
  let c0_122 : Index := 0#32
  let c3584 : Index := 3584#32
  ![v353.toNat, 0, 3584]
def k0_off16 (k0_t1 : Fin k0_t1_loop.trips) : Fin 3 → Nat :=
  let c0_i32 : BitVec 32 := 0#32
  let c1_i32 : BitVec 32 := 1#32
  let arg9 : BitVec 32 := Scf.iv c0_i32 c1_i32 k0_t1
  let v370 : Index := Scalar.indexCast arg9
  let c0_127 : Index := 0#32
  let c3840 : Index := 3840#32
  ![v370.toNat, 0, 3840]
def k0_off17 (k0_t1 : Fin k0_t1_loop.trips) : Fin 3 → Nat :=
  let c0_i32 : BitVec 32 := 0#32
  let c1_i32 : BitVec 32 := 1#32
  let arg9 : BitVec 32 := Scf.iv c0_i32 c1_i32 k0_t1
  let v387 : Index := Scalar.indexCast arg9
  let c0_132 : Index := 0#32
  let c4096 : Index := 4096#32
  ![v387.toNat, 0, 4096]
def k0_off18 (k0_t1 : Fin k0_t1_loop.trips) : Fin 3 → Nat :=
  let c0_i32 : BitVec 32 := 0#32
  let c1_i32 : BitVec 32 := 1#32
  let arg9 : BitVec 32 := Scf.iv c0_i32 c1_i32 k0_t1
  let v404 : Index := Scalar.indexCast arg9
  let c0_137 : Index := 0#32
  let c4352 : Index := 4352#32
  ![v404.toNat, 0, 4352]
def k0_off19 (k0_t1 : Fin k0_t1_loop.trips) : Fin 3 → Nat :=
  let c0_i32 : BitVec 32 := 0#32
  let c1_i32 : BitVec 32 := 1#32
  let arg9 : BitVec 32 := Scf.iv c0_i32 c1_i32 k0_t1
  let v421 : Index := Scalar.indexCast arg9
  let c0_142 : Index := 0#32
  let c4608 : Index := 4608#32
  ![v421.toNat, 0, 4608]
def k0_off20 (k0_t1 : Fin k0_t1_loop.trips) : Fin 3 → Nat :=
  let c0_i32 : BitVec 32 := 0#32
  let c1_i32 : BitVec 32 := 1#32
  let arg9 : BitVec 32 := Scf.iv c0_i32 c1_i32 k0_t1
  let v438 : Index := Scalar.indexCast arg9
  let c0_147 : Index := 0#32
  let c4864 : Index := 4864#32
  ![v438.toNat, 0, 4864]
def k0_off21 (k0_t1 : Fin k0_t1_loop.trips) : Fin 3 → Nat :=
  let c0_i32 : BitVec 32 := 0#32
  let c1_i32 : BitVec 32 := 1#32
  let arg9 : BitVec 32 := Scf.iv c0_i32 c1_i32 k0_t1
  let v455 : Index := Scalar.indexCast arg9
  let c0_152 : Index := 0#32
  let c5120 : Index := 5120#32
  ![v455.toNat, 0, 5120]
def k0_off22 (k0_t1 : Fin k0_t1_loop.trips) : Fin 3 → Nat :=
  let c0_i32 : BitVec 32 := 0#32
  let c1_i32 : BitVec 32 := 1#32
  let arg9 : BitVec 32 := Scf.iv c0_i32 c1_i32 k0_t1
  let v472 : Index := Scalar.indexCast arg9
  let c0_157 : Index := 0#32
  let c5376 : Index := 5376#32
  ![v472.toNat, 0, 5376]
def k0_off23 (k0_t1 : Fin k0_t1_loop.trips) : Fin 3 → Nat :=
  let c0_i32 : BitVec 32 := 0#32
  let c1_i32 : BitVec 32 := 1#32
  let arg9 : BitVec 32 := Scf.iv c0_i32 c1_i32 k0_t1
  let v489 : Index := Scalar.indexCast arg9
  let c0_162 : Index := 0#32
  let c5632 : Index := 5632#32
  ![v489.toNat, 0, 5632]
def k0_off24 (k0_t1 : Fin k0_t1_loop.trips) : Fin 3 → Nat :=
  let c0_i32 : BitVec 32 := 0#32
  let c1_i32 : BitVec 32 := 1#32
  let arg9 : BitVec 32 := Scf.iv c0_i32 c1_i32 k0_t1
  let v506 : Index := Scalar.indexCast arg9
  let c0_167 : Index := 0#32
  let c5888 : Index := 5888#32
  ![v506.toNat, 0, 5888]
def k0_off25 (k0_t1 : Fin k0_t1_loop.trips) : Fin 3 → Nat :=
  let c0_i32 : BitVec 32 := 0#32
  let c1_i32 : BitVec 32 := 1#32
  let arg9 : BitVec 32 := Scf.iv c0_i32 c1_i32 k0_t1
  let v523 : Index := Scalar.indexCast arg9
  let c0_172 : Index := 0#32
  let c6144 : Index := 6144#32
  ![v523.toNat, 0, 6144]
def k0_off26 (k0_t1 : Fin k0_t1_loop.trips) : Fin 3 → Nat :=
  let c0_i32 : BitVec 32 := 0#32
  let c1_i32 : BitVec 32 := 1#32
  let arg9 : BitVec 32 := Scf.iv c0_i32 c1_i32 k0_t1
  let v540 : Index := Scalar.indexCast arg9
  let c0_177 : Index := 0#32
  let c6400 : Index := 6400#32
  ![v540.toNat, 0, 6400]
def k0_off27 (k0_t1 : Fin k0_t1_loop.trips) : Fin 3 → Nat :=
  let c0_i32 : BitVec 32 := 0#32
  let c1_i32 : BitVec 32 := 1#32
  let arg9 : BitVec 32 := Scf.iv c0_i32 c1_i32 k0_t1
  let v557 : Index := Scalar.indexCast arg9
  let c0_182 : Index := 0#32
  let c6656 : Index := 6656#32
  ![v557.toNat, 0, 6656]
def k0_off28 (k0_t1 : Fin k0_t1_loop.trips) : Fin 3 → Nat :=
  let c0_i32 : BitVec 32 := 0#32
  let c1_i32 : BitVec 32 := 1#32
  let arg9 : BitVec 32 := Scf.iv c0_i32 c1_i32 k0_t1
  let v574 : Index := Scalar.indexCast arg9
  let c0_187 : Index := 0#32
  let c6912 : Index := 6912#32
  ![v574.toNat, 0, 6912]
def k0_off29 (k0_t1 : Fin k0_t1_loop.trips) : Fin 3 → Nat :=
  let c0_i32 : BitVec 32 := 0#32
  let c1_i32 : BitVec 32 := 1#32
  let arg9 : BitVec 32 := Scf.iv c0_i32 c1_i32 k0_t1
  let v591 : Index := Scalar.indexCast arg9
  let c0_192 : Index := 0#32
  let c7168 : Index := 7168#32
  ![v591.toNat, 0, 7168]
def k0_off30 (k0_t1 : Fin k0_t1_loop.trips) : Fin 3 → Nat :=
  let c0_i32 : BitVec 32 := 0#32
  let c1_i32 : BitVec 32 := 1#32
  let arg9 : BitVec 32 := Scf.iv c0_i32 c1_i32 k0_t1
  let v608 : Index := Scalar.indexCast arg9
  let c0_197 : Index := 0#32
  let c7424 : Index := 7424#32
  ![v608.toNat, 0, 7424]
def k0_off31 (k0_t1 : Fin k0_t1_loop.trips) : Fin 3 → Nat :=
  let c0_i32 : BitVec 32 := 0#32
  let c1_i32 : BitVec 32 := 1#32
  let arg9 : BitVec 32 := Scf.iv c0_i32 c1_i32 k0_t1
  let v625 : Index := Scalar.indexCast arg9
  let c0_202 : Index := 0#32
  let c7680 : Index := 7680#32
  ![v625.toNat, 0, 7680]
def k0_off32 (k0_t1 : Fin k0_t1_loop.trips) : Fin 3 → Nat :=
  let c0_i32 : BitVec 32 := 0#32
  let c1_i32 : BitVec 32 := 1#32
  let arg9 : BitVec 32 := Scf.iv c0_i32 c1_i32 k0_t1
  let v642 : Index := Scalar.indexCast arg9
  let c0_207 : Index := 0#32
  let c7936 : Index := 7936#32
  ![v642.toNat, 0, 7936]
def k0_off33 (k0_t1 : Fin k0_t1_loop.trips) : Fin 3 → Nat :=
  let c0_i32 : BitVec 32 := 0#32
  let c1_i32 : BitVec 32 := 1#32
  let arg9 : BitVec 32 := Scf.iv c0_i32 c1_i32 k0_t1
  let v659 : Index := Scalar.indexCast arg9
  let c0_212 : Index := 0#32
  let c8192 : Index := 8192#32
  ![v659.toNat, 0, 8192]
def k0_off34 (k0_t1 : Fin k0_t1_loop.trips) : Fin 3 → Nat :=
  let c0_i32 : BitVec 32 := 0#32
  let c1_i32 : BitVec 32 := 1#32
  let arg9 : BitVec 32 := Scf.iv c0_i32 c1_i32 k0_t1
  let v676 : Index := Scalar.indexCast arg9
  let c0_217 : Index := 0#32
  let c8448 : Index := 8448#32
  ![v676.toNat, 0, 8448]
def k0_off35 (k0_t1 : Fin k0_t1_loop.trips) : Fin 3 → Nat :=
  let c0_i32 : BitVec 32 := 0#32
  let c1_i32 : BitVec 32 := 1#32
  let arg9 : BitVec 32 := Scf.iv c0_i32 c1_i32 k0_t1
  let v693 : Index := Scalar.indexCast arg9
  let c0_222 : Index := 0#32
  let c8704 : Index := 8704#32
  ![v693.toNat, 0, 8704]
def k0_off36 (k0_t1 : Fin k0_t1_loop.trips) : Fin 3 → Nat :=
  let c0_i32 : BitVec 32 := 0#32
  let c1_i32 : BitVec 32 := 1#32
  let arg9 : BitVec 32 := Scf.iv c0_i32 c1_i32 k0_t1
  let v710 : Index := Scalar.indexCast arg9
  let c0_227 : Index := 0#32
  let c8960 : Index := 8960#32
  ![v710.toNat, 0, 8960]
def k0_off37 (k0_t1 : Fin k0_t1_loop.trips) : Fin 3 → Nat :=
  let c0_i32 : BitVec 32 := 0#32
  let c1_i32 : BitVec 32 := 1#32
  let arg9 : BitVec 32 := Scf.iv c0_i32 c1_i32 k0_t1
  let v727 : Index := Scalar.indexCast arg9
  let c0_232 : Index := 0#32
  let c9216 : Index := 9216#32
  ![v727.toNat, 0, 9216]
def k0_off38 (k0_t1 : Fin k0_t1_loop.trips) : Fin 3 → Nat :=
  let c0_i32 : BitVec 32 := 0#32
  let c1_i32 : BitVec 32 := 1#32
  let arg9 : BitVec 32 := Scf.iv c0_i32 c1_i32 k0_t1
  let v744 : Index := Scalar.indexCast arg9
  let c0_237 : Index := 0#32
  let c9472 : Index := 9472#32
  ![v744.toNat, 0, 9472]
def k0_off39 (k0_t1 : Fin k0_t1_loop.trips) : Fin 3 → Nat :=
  let c0_i32 : BitVec 32 := 0#32
  let c1_i32 : BitVec 32 := 1#32
  let arg9 : BitVec 32 := Scf.iv c0_i32 c1_i32 k0_t1
  let v761 : Index := Scalar.indexCast arg9
  let c0_242 : Index := 0#32
  let c9728 : Index := 9728#32
  ![v761.toNat, 0, 9728]
def k0_off40 (k0_t1 : Fin k0_t1_loop.trips) : Fin 3 → Nat :=
  let c0_i32 : BitVec 32 := 0#32
  let c1_i32 : BitVec 32 := 1#32
  let arg9 : BitVec 32 := Scf.iv c0_i32 c1_i32 k0_t1
  let v778 : Index := Scalar.indexCast arg9
  let c0_247 : Index := 0#32
  let c9984 : Index := 9984#32
  ![v778.toNat, 0, 9984]
def k0_off41 (k0_t1 : Fin k0_t1_loop.trips) : Fin 3 → Nat :=
  let c0_i32 : BitVec 32 := 0#32
  let c1_i32 : BitVec 32 := 1#32
  let arg9 : BitVec 32 := Scf.iv c0_i32 c1_i32 k0_t1
  let v795 : Index := Scalar.indexCast arg9
  let c0_252 : Index := 0#32
  let c10240 : Index := 10240#32
  ![v795.toNat, 0, 10240]
def k0_off42 (k0_t1 : Fin k0_t1_loop.trips) : Fin 3 → Nat :=
  let c0_i32 : BitVec 32 := 0#32
  let c1_i32 : BitVec 32 := 1#32
  let arg9 : BitVec 32 := Scf.iv c0_i32 c1_i32 k0_t1
  let v812 : Index := Scalar.indexCast arg9
  let c0_257 : Index := 0#32
  let c10496 : Index := 10496#32
  ![v812.toNat, 0, 10496]
def k0_off43 (k0_t1 : Fin k0_t1_loop.trips) : Fin 3 → Nat :=
  let c0_i32 : BitVec 32 := 0#32
  let c1_i32 : BitVec 32 := 1#32
  let arg9 : BitVec 32 := Scf.iv c0_i32 c1_i32 k0_t1
  let v829 : Index := Scalar.indexCast arg9
  let c0_262 : Index := 0#32
  let c10752 : Index := 10752#32
  ![v829.toNat, 0, 10752]
def k0_off44 (k0_t1 : Fin k0_t1_loop.trips) : Fin 3 → Nat :=
  let c0_i32 : BitVec 32 := 0#32
  let c1_i32 : BitVec 32 := 1#32
  let arg9 : BitVec 32 := Scf.iv c0_i32 c1_i32 k0_t1
  let v846 : Index := Scalar.indexCast arg9
  let c0_267 : Index := 0#32
  let c11008 : Index := 11008#32
  ![v846.toNat, 0, 11008]
def k0_off45 (k0_t1 : Fin k0_t1_loop.trips) : Fin 3 → Nat :=
  let c0_i32 : BitVec 32 := 0#32
  let c1_i32 : BitVec 32 := 1#32
  let arg9 : BitVec 32 := Scf.iv c0_i32 c1_i32 k0_t1
  let v863 : Index := Scalar.indexCast arg9
  let c0_272 : Index := 0#32
  let c11264 : Index := 11264#32
  ![v863.toNat, 0, 11264]
def k0_off46 (k0_t1 : Fin k0_t1_loop.trips) : Fin 3 → Nat :=
  let c0_i32 : BitVec 32 := 0#32
  let c1_i32 : BitVec 32 := 1#32
  let arg9 : BitVec 32 := Scf.iv c0_i32 c1_i32 k0_t1
  let v880 : Index := Scalar.indexCast arg9
  let c0_277 : Index := 0#32
  let c11520 : Index := 11520#32
  ![v880.toNat, 0, 11520]
def k0_off47 (k0_t1 : Fin k0_t1_loop.trips) : Fin 3 → Nat :=
  let c0_i32 : BitVec 32 := 0#32
  let c1_i32 : BitVec 32 := 1#32
  let arg9 : BitVec 32 := Scf.iv c0_i32 c1_i32 k0_t1
  let v897 : Index := Scalar.indexCast arg9
  let c0_282 : Index := 0#32
  let c11776 : Index := 11776#32
  ![v897.toNat, 0, 11776]
def k0_off48 (k0_t1 : Fin k0_t1_loop.trips) : Fin 3 → Nat :=
  let c0_i32 : BitVec 32 := 0#32
  let c1_i32 : BitVec 32 := 1#32
  let arg9 : BitVec 32 := Scf.iv c0_i32 c1_i32 k0_t1
  let v914 : Index := Scalar.indexCast arg9
  let c0_287 : Index := 0#32
  let c12032 : Index := 12032#32
  ![v914.toNat, 0, 12032]
def k0_off49 (k0_t1 : Fin k0_t1_loop.trips) : Fin 3 → Nat :=
  let c0_i32 : BitVec 32 := 0#32
  let c1_i32 : BitVec 32 := 1#32
  let arg9 : BitVec 32 := Scf.iv c0_i32 c1_i32 k0_t1
  let v931 : Index := Scalar.indexCast arg9
  let c0_292 : Index := 0#32
  let c12288 : Index := 12288#32
  ![v931.toNat, 0, 12288]
def k0_off50 (k0_t1 : Fin k0_t1_loop.trips) : Fin 3 → Nat :=
  let c0_i32 : BitVec 32 := 0#32
  let c1_i32 : BitVec 32 := 1#32
  let arg9 : BitVec 32 := Scf.iv c0_i32 c1_i32 k0_t1
  let v948 : Index := Scalar.indexCast arg9
  let c0_297 : Index := 0#32
  let c12544 : Index := 12544#32
  ![v948.toNat, 0, 12544]
def k0_off51 (k0_t1 : Fin k0_t1_loop.trips) : Fin 3 → Nat :=
  let c0_i32 : BitVec 32 := 0#32
  let c1_i32 : BitVec 32 := 1#32
  let arg9 : BitVec 32 := Scf.iv c0_i32 c1_i32 k0_t1
  let v965 : Index := Scalar.indexCast arg9
  let c0_302 : Index := 0#32
  let c12800 : Index := 12800#32
  ![v965.toNat, 0, 12800]
def k0_off52 (k0_t1 : Fin k0_t1_loop.trips) : Fin 3 → Nat :=
  let c0_i32 : BitVec 32 := 0#32
  let c1_i32 : BitVec 32 := 1#32
  let arg9 : BitVec 32 := Scf.iv c0_i32 c1_i32 k0_t1
  let v982 : Index := Scalar.indexCast arg9
  let c0_307 : Index := 0#32
  let c13056 : Index := 13056#32
  ![v982.toNat, 0, 13056]
def k0_off53 (k0_t1 : Fin k0_t1_loop.trips) : Fin 3 → Nat :=
  let c0_i32 : BitVec 32 := 0#32
  let c1_i32 : BitVec 32 := 1#32
  let arg9 : BitVec 32 := Scf.iv c0_i32 c1_i32 k0_t1
  let v999 : Index := Scalar.indexCast arg9
  let c0_312 : Index := 0#32
  let c13312 : Index := 13312#32
  ![v999.toNat, 0, 13312]
def k0_off54 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1016 : Index := Scalar.indexCast arg9
  let c0_317 : Index := 0#32
  let c13568 : Index := 13568#32
  ![v1016.toNat, 0, 13568]
def k0_off55 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1033 : Index := Scalar.indexCast arg9
  let c0_322 : Index := 0#32
  let c13824 : Index := 13824#32
  ![v1033.toNat, 0, 13824]
def k0_off56 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1050 : Index := Scalar.indexCast arg9
  let c0_327 : Index := 0#32
  let c14080 : Index := 14080#32
  ![v1050.toNat, 0, 14080]
def k0_off57 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1067 : Index := Scalar.indexCast arg9
  let c0_332 : Index := 0#32
  let c14336 : Index := 14336#32
  ![v1067.toNat, 0, 14336]
def k0_off58 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1084 : Index := Scalar.indexCast arg9
  let c0_337 : Index := 0#32
  let c14592 : Index := 14592#32
  ![v1084.toNat, 0, 14592]
def k0_off59 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1101 : Index := Scalar.indexCast arg9
  let c0_342 : Index := 0#32
  let c14848 : Index := 14848#32
  ![v1101.toNat, 0, 14848]
def k0_off60 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1118 : Index := Scalar.indexCast arg9
  let c0_347 : Index := 0#32
  let c15104 : Index := 15104#32
  ![v1118.toNat, 0, 15104]
def k0_off61 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1135 : Index := Scalar.indexCast arg9
  let c0_352 : Index := 0#32
  let c15360 : Index := 15360#32
  ![v1135.toNat, 0, 15360]
def k0_off62 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1152 : Index := Scalar.indexCast arg9
  let c0_357 : Index := 0#32
  let c15616 : Index := 15616#32
  ![v1152.toNat, 0, 15616]
def k0_off63 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1169 : Index := Scalar.indexCast arg9
  let c0_362 : Index := 0#32
  let c15872 : Index := 15872#32
  ![v1169.toNat, 0, 15872]
def k0_off64 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1186 : Index := Scalar.indexCast arg9
  let c0_367 : Index := 0#32
  let c16128 : Index := 16128#32
  ![v1186.toNat, 0, 16128]
def k0_off65 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1206 : Index := Scalar.indexCast arg9
  let c0_372 : Index := 0#32
  let c0_373 : Index := 0#32
  ![v1206.toNat, 0, 0]
@[reducible] def k0_t2_loop : Scf.Loop 32 :=
  let c0_i32_8 : BitVec 32 := 0#32
  let c16_i32_9 : BitVec 32 := 16#32
  let v14 : BitVec 32 := Scalar.addi c0_i32_8 c16_i32_9
  let c1_i32_10 : BitVec 32 := 1#32
  ⟨c0_i32_8, v14, c1_i32_10⟩
def k0_mult1 (k0_t2 : Fin k0_t2_loop.trips) : BitVec 32 :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  v116
def k0_off66 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v118 : Index := Scalar.indexCast arg9
  let c0_51 : Index := 0#32
  let c0_52 : Index := 0#32
  ![v118.toNat, 0, 0]
def k0_off67 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v122 : Index := Scalar.indexCast arg9
  let c0_53 : Index := 0#32
  let c0_54 : Index := 0#32
  ![v122.toNat, 0, 0]
def k0_off68 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v131 : Index := Scalar.indexCast v117
  let c0_57 : Index := 0#32
  ![v131.toNat, 0]
def k0_off69 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v136 : Index := Scalar.indexCast arg9
  let c0_58 : Index := 0#32
  let c256 : Index := 256#32
  ![v136.toNat, 0, 256]
def k0_off70 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v145 : Index := Scalar.indexCast v117
  let c256_61 : Index := 256#32
  ![v145.toNat, 256]
def k0_off71 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v151 : Index := Scalar.indexCast arg9
  let c0_62 : Index := 0#32
  let c512 : Index := 512#32
  ![v151.toNat, 0, 512]
def k0_off72 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v160 : Index := Scalar.indexCast v117
  let c512_65 : Index := 512#32
  ![v160.toNat, 512]
def k0_off73 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v166 : Index := Scalar.indexCast arg9
  let c0_66 : Index := 0#32
  let c768 : Index := 768#32
  ![v166.toNat, 0, 768]
def k0_off74 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v175 : Index := Scalar.indexCast v117
  let c768_69 : Index := 768#32
  ![v175.toNat, 768]
def k0_off75 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v181 : Index := Scalar.indexCast arg9
  let c0_70 : Index := 0#32
  let c1024 : Index := 1024#32
  ![v181.toNat, 0, 1024]
def k0_off76 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v190 : Index := Scalar.indexCast v117
  let c1024_73 : Index := 1024#32
  ![v190.toNat, 1024]
def k0_off77 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v196 : Index := Scalar.indexCast arg9
  let c0_74 : Index := 0#32
  let c1280 : Index := 1280#32
  ![v196.toNat, 0, 1280]
def k0_off78 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v205 : Index := Scalar.indexCast v117
  let c1280_77 : Index := 1280#32
  ![v205.toNat, 1280]
def k0_off79 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v211 : Index := Scalar.indexCast arg9
  let c0_78 : Index := 0#32
  let c1536 : Index := 1536#32
  ![v211.toNat, 0, 1536]
def k0_off80 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v220 : Index := Scalar.indexCast v117
  let c1536_81 : Index := 1536#32
  ![v220.toNat, 1536]
def k0_off81 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v226 : Index := Scalar.indexCast arg9
  let c0_82 : Index := 0#32
  let c1792 : Index := 1792#32
  ![v226.toNat, 0, 1792]
def k0_off82 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v235 : Index := Scalar.indexCast v117
  let c1792_85 : Index := 1792#32
  ![v235.toNat, 1792]
def k0_off83 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v241 : Index := Scalar.indexCast arg9
  let c0_86 : Index := 0#32
  let c2048 : Index := 2048#32
  ![v241.toNat, 0, 2048]
def k0_off84 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v250 : Index := Scalar.indexCast v117
  let c2048_89 : Index := 2048#32
  ![v250.toNat, 2048]
def k0_off85 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v256 : Index := Scalar.indexCast arg9
  let c0_90 : Index := 0#32
  let c2304 : Index := 2304#32
  ![v256.toNat, 0, 2304]
def k0_off86 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v265 : Index := Scalar.indexCast v117
  let c2304_93 : Index := 2304#32
  ![v265.toNat, 2304]
def k0_off87 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v271 : Index := Scalar.indexCast arg9
  let c0_94 : Index := 0#32
  let c2560 : Index := 2560#32
  ![v271.toNat, 0, 2560]
def k0_off88 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v280 : Index := Scalar.indexCast v117
  let c2560_97 : Index := 2560#32
  ![v280.toNat, 2560]
def k0_off89 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v286 : Index := Scalar.indexCast arg9
  let c0_98 : Index := 0#32
  let c2816 : Index := 2816#32
  ![v286.toNat, 0, 2816]
def k0_off90 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v295 : Index := Scalar.indexCast v117
  let c2816_101 : Index := 2816#32
  ![v295.toNat, 2816]
def k0_off91 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v301 : Index := Scalar.indexCast arg9
  let c0_102 : Index := 0#32
  let c3072 : Index := 3072#32
  ![v301.toNat, 0, 3072]
def k0_off92 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v310 : Index := Scalar.indexCast v117
  let c3072_105 : Index := 3072#32
  ![v310.toNat, 3072]
def k0_off93 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v316 : Index := Scalar.indexCast arg9
  let c0_106 : Index := 0#32
  let c3328 : Index := 3328#32
  ![v316.toNat, 0, 3328]
def k0_off94 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v325 : Index := Scalar.indexCast v117
  let c3328_109 : Index := 3328#32
  ![v325.toNat, 3328]
def k0_off95 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v331 : Index := Scalar.indexCast arg9
  let c0_110 : Index := 0#32
  let c3584 : Index := 3584#32
  ![v331.toNat, 0, 3584]
def k0_off96 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v340 : Index := Scalar.indexCast v117
  let c3584_113 : Index := 3584#32
  ![v340.toNat, 3584]
def k0_off97 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v346 : Index := Scalar.indexCast arg9
  let c0_114 : Index := 0#32
  let c3840 : Index := 3840#32
  ![v346.toNat, 0, 3840]
def k0_off98 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v355 : Index := Scalar.indexCast v117
  let c3840_117 : Index := 3840#32
  ![v355.toNat, 3840]
def k0_off99 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v361 : Index := Scalar.indexCast arg9
  let c0_118 : Index := 0#32
  let c4096 : Index := 4096#32
  ![v361.toNat, 0, 4096]
def k0_off100 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v370 : Index := Scalar.indexCast v117
  let c4096_121 : Index := 4096#32
  ![v370.toNat, 4096]
def k0_off101 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v376 : Index := Scalar.indexCast arg9
  let c0_122 : Index := 0#32
  let c4352 : Index := 4352#32
  ![v376.toNat, 0, 4352]
def k0_off102 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v385 : Index := Scalar.indexCast v117
  let c4352_125 : Index := 4352#32
  ![v385.toNat, 4352]
def k0_off103 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v391 : Index := Scalar.indexCast arg9
  let c0_126 : Index := 0#32
  let c4608 : Index := 4608#32
  ![v391.toNat, 0, 4608]
def k0_off104 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v400 : Index := Scalar.indexCast v117
  let c4608_129 : Index := 4608#32
  ![v400.toNat, 4608]
def k0_off105 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v406 : Index := Scalar.indexCast arg9
  let c0_130 : Index := 0#32
  let c4864 : Index := 4864#32
  ![v406.toNat, 0, 4864]
def k0_off106 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v415 : Index := Scalar.indexCast v117
  let c4864_133 : Index := 4864#32
  ![v415.toNat, 4864]
def k0_off107 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v421 : Index := Scalar.indexCast arg9
  let c0_134 : Index := 0#32
  let c5120 : Index := 5120#32
  ![v421.toNat, 0, 5120]
def k0_off108 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v430 : Index := Scalar.indexCast v117
  let c5120_137 : Index := 5120#32
  ![v430.toNat, 5120]
def k0_off109 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v436 : Index := Scalar.indexCast arg9
  let c0_138 : Index := 0#32
  let c5376 : Index := 5376#32
  ![v436.toNat, 0, 5376]
def k0_off110 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v445 : Index := Scalar.indexCast v117
  let c5376_141 : Index := 5376#32
  ![v445.toNat, 5376]
def k0_off111 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v451 : Index := Scalar.indexCast arg9
  let c0_142 : Index := 0#32
  let c5632 : Index := 5632#32
  ![v451.toNat, 0, 5632]
def k0_off112 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v460 : Index := Scalar.indexCast v117
  let c5632_145 : Index := 5632#32
  ![v460.toNat, 5632]
def k0_off113 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v466 : Index := Scalar.indexCast arg9
  let c0_146 : Index := 0#32
  let c5888 : Index := 5888#32
  ![v466.toNat, 0, 5888]
def k0_off114 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v475 : Index := Scalar.indexCast v117
  let c5888_149 : Index := 5888#32
  ![v475.toNat, 5888]
def k0_off115 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v481 : Index := Scalar.indexCast arg9
  let c0_150 : Index := 0#32
  let c6144 : Index := 6144#32
  ![v481.toNat, 0, 6144]
def k0_off116 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v490 : Index := Scalar.indexCast v117
  let c6144_153 : Index := 6144#32
  ![v490.toNat, 6144]
def k0_off117 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v496 : Index := Scalar.indexCast arg9
  let c0_154 : Index := 0#32
  let c6400 : Index := 6400#32
  ![v496.toNat, 0, 6400]
def k0_off118 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v505 : Index := Scalar.indexCast v117
  let c6400_157 : Index := 6400#32
  ![v505.toNat, 6400]
def k0_off119 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v511 : Index := Scalar.indexCast arg9
  let c0_158 : Index := 0#32
  let c6656 : Index := 6656#32
  ![v511.toNat, 0, 6656]
def k0_off120 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v520 : Index := Scalar.indexCast v117
  let c6656_161 : Index := 6656#32
  ![v520.toNat, 6656]
def k0_off121 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v526 : Index := Scalar.indexCast arg9
  let c0_162 : Index := 0#32
  let c6912 : Index := 6912#32
  ![v526.toNat, 0, 6912]
def k0_off122 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v535 : Index := Scalar.indexCast v117
  let c6912_165 : Index := 6912#32
  ![v535.toNat, 6912]
def k0_off123 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v541 : Index := Scalar.indexCast arg9
  let c0_166 : Index := 0#32
  let c7168 : Index := 7168#32
  ![v541.toNat, 0, 7168]
def k0_off124 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v550 : Index := Scalar.indexCast v117
  let c7168_169 : Index := 7168#32
  ![v550.toNat, 7168]
def k0_off125 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v556 : Index := Scalar.indexCast arg9
  let c0_170 : Index := 0#32
  let c7424 : Index := 7424#32
  ![v556.toNat, 0, 7424]
def k0_off126 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v565 : Index := Scalar.indexCast v117
  let c7424_173 : Index := 7424#32
  ![v565.toNat, 7424]
def k0_off127 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v571 : Index := Scalar.indexCast arg9
  let c0_174 : Index := 0#32
  let c7680 : Index := 7680#32
  ![v571.toNat, 0, 7680]
def k0_off128 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v580 : Index := Scalar.indexCast v117
  let c7680_177 : Index := 7680#32
  ![v580.toNat, 7680]
def k0_off129 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v586 : Index := Scalar.indexCast arg9
  let c0_178 : Index := 0#32
  let c7936 : Index := 7936#32
  ![v586.toNat, 0, 7936]
def k0_off130 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v595 : Index := Scalar.indexCast v117
  let c7936_181 : Index := 7936#32
  ![v595.toNat, 7936]
def k0_off131 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v601 : Index := Scalar.indexCast arg9
  let c0_182 : Index := 0#32
  let c8192 : Index := 8192#32
  ![v601.toNat, 0, 8192]
def k0_off132 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v610 : Index := Scalar.indexCast v117
  let c8192_185 : Index := 8192#32
  ![v610.toNat, 8192]
def k0_off133 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v616 : Index := Scalar.indexCast arg9
  let c0_186 : Index := 0#32
  let c8448 : Index := 8448#32
  ![v616.toNat, 0, 8448]
def k0_off134 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v625 : Index := Scalar.indexCast v117
  let c8448_189 : Index := 8448#32
  ![v625.toNat, 8448]
def k0_off135 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v631 : Index := Scalar.indexCast arg9
  let c0_190 : Index := 0#32
  let c8704 : Index := 8704#32
  ![v631.toNat, 0, 8704]
def k0_off136 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v640 : Index := Scalar.indexCast v117
  let c8704_193 : Index := 8704#32
  ![v640.toNat, 8704]
def k0_off137 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v646 : Index := Scalar.indexCast arg9
  let c0_194 : Index := 0#32
  let c8960 : Index := 8960#32
  ![v646.toNat, 0, 8960]
def k0_off138 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v655 : Index := Scalar.indexCast v117
  let c8960_197 : Index := 8960#32
  ![v655.toNat, 8960]
def k0_off139 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v661 : Index := Scalar.indexCast arg9
  let c0_198 : Index := 0#32
  let c9216 : Index := 9216#32
  ![v661.toNat, 0, 9216]
def k0_off140 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v670 : Index := Scalar.indexCast v117
  let c9216_201 : Index := 9216#32
  ![v670.toNat, 9216]
def k0_off141 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v676 : Index := Scalar.indexCast arg9
  let c0_202 : Index := 0#32
  let c9472 : Index := 9472#32
  ![v676.toNat, 0, 9472]
def k0_off142 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v685 : Index := Scalar.indexCast v117
  let c9472_205 : Index := 9472#32
  ![v685.toNat, 9472]
def k0_off143 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v691 : Index := Scalar.indexCast arg9
  let c0_206 : Index := 0#32
  let c9728 : Index := 9728#32
  ![v691.toNat, 0, 9728]
def k0_off144 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v700 : Index := Scalar.indexCast v117
  let c9728_209 : Index := 9728#32
  ![v700.toNat, 9728]
def k0_off145 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v706 : Index := Scalar.indexCast arg9
  let c0_210 : Index := 0#32
  let c9984 : Index := 9984#32
  ![v706.toNat, 0, 9984]
def k0_off146 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v715 : Index := Scalar.indexCast v117
  let c9984_213 : Index := 9984#32
  ![v715.toNat, 9984]
def k0_off147 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v721 : Index := Scalar.indexCast arg9
  let c0_214 : Index := 0#32
  let c10240 : Index := 10240#32
  ![v721.toNat, 0, 10240]
def k0_off148 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v730 : Index := Scalar.indexCast v117
  let c10240_217 : Index := 10240#32
  ![v730.toNat, 10240]
def k0_off149 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v736 : Index := Scalar.indexCast arg9
  let c0_218 : Index := 0#32
  let c10496 : Index := 10496#32
  ![v736.toNat, 0, 10496]
def k0_off150 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v745 : Index := Scalar.indexCast v117
  let c10496_221 : Index := 10496#32
  ![v745.toNat, 10496]
def k0_off151 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v751 : Index := Scalar.indexCast arg9
  let c0_222 : Index := 0#32
  let c10752 : Index := 10752#32
  ![v751.toNat, 0, 10752]
def k0_off152 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v760 : Index := Scalar.indexCast v117
  let c10752_225 : Index := 10752#32
  ![v760.toNat, 10752]
def k0_off153 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v766 : Index := Scalar.indexCast arg9
  let c0_226 : Index := 0#32
  let c11008 : Index := 11008#32
  ![v766.toNat, 0, 11008]
def k0_off154 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v775 : Index := Scalar.indexCast v117
  let c11008_229 : Index := 11008#32
  ![v775.toNat, 11008]
def k0_off155 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v781 : Index := Scalar.indexCast arg9
  let c0_230 : Index := 0#32
  let c11264 : Index := 11264#32
  ![v781.toNat, 0, 11264]
def k0_off156 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v790 : Index := Scalar.indexCast v117
  let c11264_233 : Index := 11264#32
  ![v790.toNat, 11264]
def k0_off157 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v796 : Index := Scalar.indexCast arg9
  let c0_234 : Index := 0#32
  let c11520 : Index := 11520#32
  ![v796.toNat, 0, 11520]
def k0_off158 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v805 : Index := Scalar.indexCast v117
  let c11520_237 : Index := 11520#32
  ![v805.toNat, 11520]
def k0_off159 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v811 : Index := Scalar.indexCast arg9
  let c0_238 : Index := 0#32
  let c11776 : Index := 11776#32
  ![v811.toNat, 0, 11776]
def k0_off160 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v820 : Index := Scalar.indexCast v117
  let c11776_241 : Index := 11776#32
  ![v820.toNat, 11776]
def k0_off161 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v826 : Index := Scalar.indexCast arg9
  let c0_242 : Index := 0#32
  let c12032 : Index := 12032#32
  ![v826.toNat, 0, 12032]
def k0_off162 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v835 : Index := Scalar.indexCast v117
  let c12032_245 : Index := 12032#32
  ![v835.toNat, 12032]
def k0_off163 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v841 : Index := Scalar.indexCast arg9
  let c0_246 : Index := 0#32
  let c12288 : Index := 12288#32
  ![v841.toNat, 0, 12288]
def k0_off164 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v850 : Index := Scalar.indexCast v117
  let c12288_249 : Index := 12288#32
  ![v850.toNat, 12288]
def k0_off165 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v856 : Index := Scalar.indexCast arg9
  let c0_250 : Index := 0#32
  let c12544 : Index := 12544#32
  ![v856.toNat, 0, 12544]
def k0_off166 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v865 : Index := Scalar.indexCast v117
  let c12544_253 : Index := 12544#32
  ![v865.toNat, 12544]
def k0_off167 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v871 : Index := Scalar.indexCast arg9
  let c0_254 : Index := 0#32
  let c12800 : Index := 12800#32
  ![v871.toNat, 0, 12800]
def k0_off168 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v880 : Index := Scalar.indexCast v117
  let c12800_257 : Index := 12800#32
  ![v880.toNat, 12800]
def k0_off169 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v886 : Index := Scalar.indexCast arg9
  let c0_258 : Index := 0#32
  let c13056 : Index := 13056#32
  ![v886.toNat, 0, 13056]
def k0_off170 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v895 : Index := Scalar.indexCast v117
  let c13056_261 : Index := 13056#32
  ![v895.toNat, 13056]
def k0_off171 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v901 : Index := Scalar.indexCast arg9
  let c0_262 : Index := 0#32
  let c13312 : Index := 13312#32
  ![v901.toNat, 0, 13312]
def k0_off172 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v910 : Index := Scalar.indexCast v117
  let c13312_265 : Index := 13312#32
  ![v910.toNat, 13312]
def k0_off173 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v916 : Index := Scalar.indexCast arg9
  let c0_266 : Index := 0#32
  let c13568 : Index := 13568#32
  ![v916.toNat, 0, 13568]
def k0_off174 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v925 : Index := Scalar.indexCast v117
  let c13568_269 : Index := 13568#32
  ![v925.toNat, 13568]
def k0_off175 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v931 : Index := Scalar.indexCast arg9
  let c0_270 : Index := 0#32
  let c13824 : Index := 13824#32
  ![v931.toNat, 0, 13824]
def k0_off176 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v940 : Index := Scalar.indexCast v117
  let c13824_273 : Index := 13824#32
  ![v940.toNat, 13824]
def k0_off177 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v946 : Index := Scalar.indexCast arg9
  let c0_274 : Index := 0#32
  let c14080 : Index := 14080#32
  ![v946.toNat, 0, 14080]
def k0_off178 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v955 : Index := Scalar.indexCast v117
  let c14080_277 : Index := 14080#32
  ![v955.toNat, 14080]
def k0_off179 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v961 : Index := Scalar.indexCast arg9
  let c0_278 : Index := 0#32
  let c14336 : Index := 14336#32
  ![v961.toNat, 0, 14336]
def k0_off180 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v970 : Index := Scalar.indexCast v117
  let c14336_281 : Index := 14336#32
  ![v970.toNat, 14336]
def k0_off181 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v976 : Index := Scalar.indexCast arg9
  let c0_282 : Index := 0#32
  let c14592 : Index := 14592#32
  ![v976.toNat, 0, 14592]
def k0_off182 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v985 : Index := Scalar.indexCast v117
  let c14592_285 : Index := 14592#32
  ![v985.toNat, 14592]
def k0_off183 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v991 : Index := Scalar.indexCast arg9
  let c0_286 : Index := 0#32
  let c14848 : Index := 14848#32
  ![v991.toNat, 0, 14848]
def k0_off184 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v1000 : Index := Scalar.indexCast v117
  let c14848_289 : Index := 14848#32
  ![v1000.toNat, 14848]
def k0_off185 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v1006 : Index := Scalar.indexCast arg9
  let c0_290 : Index := 0#32
  let c15104 : Index := 15104#32
  ![v1006.toNat, 0, 15104]
def k0_off186 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v1015 : Index := Scalar.indexCast v117
  let c15104_293 : Index := 15104#32
  ![v1015.toNat, 15104]
def k0_off187 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v1021 : Index := Scalar.indexCast arg9
  let c0_294 : Index := 0#32
  let c15360 : Index := 15360#32
  ![v1021.toNat, 0, 15360]
def k0_off188 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v1030 : Index := Scalar.indexCast v117
  let c15360_297 : Index := 15360#32
  ![v1030.toNat, 15360]
def k0_off189 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v1036 : Index := Scalar.indexCast arg9
  let c0_298 : Index := 0#32
  let c15616 : Index := 15616#32
  ![v1036.toNat, 0, 15616]
def k0_off190 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v1045 : Index := Scalar.indexCast v117
  let c15616_301 : Index := 15616#32
  ![v1045.toNat, 15616]
def k0_off191 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v1051 : Index := Scalar.indexCast arg9
  let c0_302 : Index := 0#32
  let c15872 : Index := 15872#32
  ![v1051.toNat, 0, 15872]
def k0_off192 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v1060 : Index := Scalar.indexCast v117
  let c15872_305 : Index := 15872#32
  ![v1060.toNat, 15872]
def k0_off193 (k0_t2 : Fin k0_t2_loop.trips) : Fin 3 → Nat :=
  let c0_i32_8 : BitVec 32 := 0#32
  let c1_i32_10 : BitVec 32 := 1#32
  let arg9 : BitVec 32 := Scf.iv c0_i32_8 c1_i32_10 k0_t2
  let v1066 : Index := Scalar.indexCast arg9
  let c0_306 : Index := 0#32
  let c16128 : Index := 16128#32
  ![v1066.toNat, 0, 16128]
def k0_off194 (k0_t2 : Fin k0_t2_loop.trips) : Fin 2 → Nat :=
  let c0_i32_8 : BitVec 32 := 0#32
  let c1_i32_10 : BitVec 32 := 1#32
  let arg9 : BitVec 32 := Scf.iv c0_i32_8 c1_i32_10 k0_t2
  let c8_i32 : BitVec 32 := 8#32
  let v116 : BitVec 32 := Scalar.muli arg9 c8_i32
  let v117 : BitVec 32 := v116
  let v1075 : Index := Scalar.indexCast v117
  let c16128_309 : Index := 16128#32
  ![v1075.toNat, 16128]
def k0_mult2 (i : grid0.Coords) : BitVec 32 :=
  let arg0 : BitVec 32 := BitVec.ofNat 32 (i 0).val
  let c16_i32_34 : BitVec 32 := 16#32
  let c0_i32_35 : BitVec 32 := 0#32
  let v72 : BitVec 1 := Scalar.cmpi .eq c16_i32_34 c0_i32_35
  let c1_i32_36 : BitVec 32 := 1#32
  let v73 : BitVec 32 := Scalar.select v72 c1_i32_36 c16_i32_34
  let v74 : BitVec 32 := Scalar.remsi arg0 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c128_i32 : BitVec 32 := 128#32
  let v82 : BitVec 32 := Scalar.muli v81 c128_i32
  v82
def k0_off195 (i : grid0.Coords) : Fin 2 → Nat :=
  let c0_47 : Index := 0#32
  let arg0 : BitVec 32 := BitVec.ofNat 32 (i 0).val
  let c16_i32_34 : BitVec 32 := 16#32
  let c0_i32_35 : BitVec 32 := 0#32
  let v72 : BitVec 1 := Scalar.cmpi .eq c16_i32_34 c0_i32_35
  let c1_i32_36 : BitVec 32 := 1#32
  let v73 : BitVec 32 := Scalar.select v72 c1_i32_36 c16_i32_34
  let v74 : BitVec 32 := Scalar.remsi arg0 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c128_i32 : BitVec 32 := 128#32
  let v82 : BitVec 32 := Scalar.muli v81 c128_i32
  let v83 : BitVec 32 := v82
  let v110 : Index := Scalar.indexCast v83
  ![0, v110.toNat]
@[reducible] def k0_t3_loop : Scf.Loop 32 :=
  let c0_i32_48 : BitVec 32 := 0#32
  let c4_i32 : BitVec 32 := 4#32
  let v115 : BitVec 32 := Scalar.addi c0_i32_48 c4_i32
  let c1_i32_49 : BitVec 32 := 1#32
  ⟨c0_i32_48, v115, c1_i32_49⟩
def k0_mult3 (k0_t3 : Fin k0_t3_loop.trips) : BitVec 32 :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  v116
def k0_off196 (k0_t3 : Fin k0_t3_loop.trips) : Fin 3 → Nat :=
  let c0_i32_48 : BitVec 32 := 0#32
  let c1_i32_49 : BitVec 32 := 1#32
  let arg9 : BitVec 32 := Scf.iv c0_i32_48 c1_i32_49 k0_t3
  let c4_i32_51 : BitVec 32 := 4#32
  let v118 : BitVec 32 := Scalar.muli arg9 c4_i32_51
  let v119 : Index := Scalar.indexCast v118
  let c0_52 : Index := 0#32
  let c0_53 : Index := 0#32
  ![v119.toNat, 0, 0]
def k0_off197 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v122 : Index := Scalar.indexCast v117
  let c0_54 : Index := 0#32
  ![v122.toNat, 0]
def k0_off198 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v132 : Index := Scalar.indexCast v117
  let c128 : Index := 128#32
  ![v132.toNat, 128]
def k0_off199 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v142 : Index := Scalar.indexCast v117
  let c256 : Index := 256#32
  ![v142.toNat, 256]
def k0_off200 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v152 : Index := Scalar.indexCast v117
  let c384 : Index := 384#32
  ![v152.toNat, 384]
def k0_off201 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v162 : Index := Scalar.indexCast v117
  let c512 : Index := 512#32
  ![v162.toNat, 512]
def k0_off202 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v172 : Index := Scalar.indexCast v117
  let c640 : Index := 640#32
  ![v172.toNat, 640]
def k0_off203 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v182 : Index := Scalar.indexCast v117
  let c768 : Index := 768#32
  ![v182.toNat, 768]
def k0_off204 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v192 : Index := Scalar.indexCast v117
  let c896 : Index := 896#32
  ![v192.toNat, 896]
def k0_off205 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v202 : Index := Scalar.indexCast v117
  let c1024 : Index := 1024#32
  ![v202.toNat, 1024]
def k0_off206 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v212 : Index := Scalar.indexCast v117
  let c1152 : Index := 1152#32
  ![v212.toNat, 1152]
def k0_off207 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v222 : Index := Scalar.indexCast v117
  let c1280 : Index := 1280#32
  ![v222.toNat, 1280]
def k0_off208 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v232 : Index := Scalar.indexCast v117
  let c1408 : Index := 1408#32
  ![v232.toNat, 1408]
def k0_off209 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v242 : Index := Scalar.indexCast v117
  let c1536 : Index := 1536#32
  ![v242.toNat, 1536]
def k0_off210 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v252 : Index := Scalar.indexCast v117
  let c1664 : Index := 1664#32
  ![v252.toNat, 1664]
def k0_off211 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v262 : Index := Scalar.indexCast v117
  let c1792 : Index := 1792#32
  ![v262.toNat, 1792]
def k0_off212 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v272 : Index := Scalar.indexCast v117
  let c1920 : Index := 1920#32
  ![v272.toNat, 1920]
def k0_off213 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v282 : Index := Scalar.indexCast v117
  let c2048 : Index := 2048#32
  ![v282.toNat, 2048]
def k0_off214 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v292 : Index := Scalar.indexCast v117
  let c2176 : Index := 2176#32
  ![v292.toNat, 2176]
def k0_off215 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v302 : Index := Scalar.indexCast v117
  let c2304 : Index := 2304#32
  ![v302.toNat, 2304]
def k0_off216 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v312 : Index := Scalar.indexCast v117
  let c2432 : Index := 2432#32
  ![v312.toNat, 2432]
def k0_off217 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v322 : Index := Scalar.indexCast v117
  let c2560 : Index := 2560#32
  ![v322.toNat, 2560]
def k0_off218 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v332 : Index := Scalar.indexCast v117
  let c2688 : Index := 2688#32
  ![v332.toNat, 2688]
def k0_off219 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v342 : Index := Scalar.indexCast v117
  let c2816 : Index := 2816#32
  ![v342.toNat, 2816]
def k0_off220 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v352 : Index := Scalar.indexCast v117
  let c2944 : Index := 2944#32
  ![v352.toNat, 2944]
def k0_off221 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v362 : Index := Scalar.indexCast v117
  let c3072 : Index := 3072#32
  ![v362.toNat, 3072]
def k0_off222 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v372 : Index := Scalar.indexCast v117
  let c3200 : Index := 3200#32
  ![v372.toNat, 3200]
def k0_off223 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v382 : Index := Scalar.indexCast v117
  let c3328 : Index := 3328#32
  ![v382.toNat, 3328]
def k0_off224 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v392 : Index := Scalar.indexCast v117
  let c3456 : Index := 3456#32
  ![v392.toNat, 3456]
def k0_off225 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v402 : Index := Scalar.indexCast v117
  let c3584 : Index := 3584#32
  ![v402.toNat, 3584]
def k0_off226 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v412 : Index := Scalar.indexCast v117
  let c3712 : Index := 3712#32
  ![v412.toNat, 3712]
def k0_off227 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v422 : Index := Scalar.indexCast v117
  let c3840 : Index := 3840#32
  ![v422.toNat, 3840]
def k0_off228 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v432 : Index := Scalar.indexCast v117
  let c3968 : Index := 3968#32
  ![v432.toNat, 3968]
def k0_off229 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v442 : Index := Scalar.indexCast v117
  let c4096 : Index := 4096#32
  ![v442.toNat, 4096]
def k0_off230 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v452 : Index := Scalar.indexCast v117
  let c4224 : Index := 4224#32
  ![v452.toNat, 4224]
def k0_off231 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v462 : Index := Scalar.indexCast v117
  let c4352 : Index := 4352#32
  ![v462.toNat, 4352]
def k0_off232 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v472 : Index := Scalar.indexCast v117
  let c4480 : Index := 4480#32
  ![v472.toNat, 4480]
def k0_off233 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v482 : Index := Scalar.indexCast v117
  let c4608 : Index := 4608#32
  ![v482.toNat, 4608]
def k0_off234 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v492 : Index := Scalar.indexCast v117
  let c4736 : Index := 4736#32
  ![v492.toNat, 4736]
def k0_off235 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v502 : Index := Scalar.indexCast v117
  let c4864 : Index := 4864#32
  ![v502.toNat, 4864]
def k0_off236 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v512 : Index := Scalar.indexCast v117
  let c4992 : Index := 4992#32
  ![v512.toNat, 4992]
def k0_off237 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v522 : Index := Scalar.indexCast v117
  let c5120 : Index := 5120#32
  ![v522.toNat, 5120]
def k0_off238 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v532 : Index := Scalar.indexCast v117
  let c5248 : Index := 5248#32
  ![v532.toNat, 5248]
def k0_off239 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v542 : Index := Scalar.indexCast v117
  let c5376 : Index := 5376#32
  ![v542.toNat, 5376]
def k0_off240 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v552 : Index := Scalar.indexCast v117
  let c5504 : Index := 5504#32
  ![v552.toNat, 5504]
def k0_off241 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v562 : Index := Scalar.indexCast v117
  let c5632 : Index := 5632#32
  ![v562.toNat, 5632]
def k0_off242 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v572 : Index := Scalar.indexCast v117
  let c5760 : Index := 5760#32
  ![v572.toNat, 5760]
def k0_off243 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v582 : Index := Scalar.indexCast v117
  let c5888 : Index := 5888#32
  ![v582.toNat, 5888]
def k0_off244 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v592 : Index := Scalar.indexCast v117
  let c6016 : Index := 6016#32
  ![v592.toNat, 6016]
def k0_off245 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v602 : Index := Scalar.indexCast v117
  let c6144 : Index := 6144#32
  ![v602.toNat, 6144]
def k0_off246 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v612 : Index := Scalar.indexCast v117
  let c6272 : Index := 6272#32
  ![v612.toNat, 6272]
def k0_off247 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v622 : Index := Scalar.indexCast v117
  let c6400 : Index := 6400#32
  ![v622.toNat, 6400]
def k0_off248 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v632 : Index := Scalar.indexCast v117
  let c6528 : Index := 6528#32
  ![v632.toNat, 6528]
def k0_off249 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v642 : Index := Scalar.indexCast v117
  let c6656 : Index := 6656#32
  ![v642.toNat, 6656]
def k0_off250 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v652 : Index := Scalar.indexCast v117
  let c6784 : Index := 6784#32
  ![v652.toNat, 6784]
def k0_off251 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v662 : Index := Scalar.indexCast v117
  let c6912 : Index := 6912#32
  ![v662.toNat, 6912]
def k0_off252 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v672 : Index := Scalar.indexCast v117
  let c7040 : Index := 7040#32
  ![v672.toNat, 7040]
def k0_off253 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v682 : Index := Scalar.indexCast v117
  let c7168 : Index := 7168#32
  ![v682.toNat, 7168]
def k0_off254 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v692 : Index := Scalar.indexCast v117
  let c7296 : Index := 7296#32
  ![v692.toNat, 7296]
def k0_off255 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v702 : Index := Scalar.indexCast v117
  let c7424 : Index := 7424#32
  ![v702.toNat, 7424]
def k0_off256 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v712 : Index := Scalar.indexCast v117
  let c7552 : Index := 7552#32
  ![v712.toNat, 7552]
def k0_off257 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v722 : Index := Scalar.indexCast v117
  let c7680 : Index := 7680#32
  ![v722.toNat, 7680]
def k0_off258 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v732 : Index := Scalar.indexCast v117
  let c7808 : Index := 7808#32
  ![v732.toNat, 7808]
def k0_off259 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v742 : Index := Scalar.indexCast v117
  let c7936 : Index := 7936#32
  ![v742.toNat, 7936]
def k0_off260 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v752 : Index := Scalar.indexCast v117
  let c8064 : Index := 8064#32
  ![v752.toNat, 8064]
def k0_off261 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v762 : Index := Scalar.indexCast v117
  let c8192 : Index := 8192#32
  ![v762.toNat, 8192]
def k0_off262 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v772 : Index := Scalar.indexCast v117
  let c8320 : Index := 8320#32
  ![v772.toNat, 8320]
def k0_off263 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v782 : Index := Scalar.indexCast v117
  let c8448 : Index := 8448#32
  ![v782.toNat, 8448]
def k0_off264 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v792 : Index := Scalar.indexCast v117
  let c8576 : Index := 8576#32
  ![v792.toNat, 8576]
def k0_off265 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v802 : Index := Scalar.indexCast v117
  let c8704 : Index := 8704#32
  ![v802.toNat, 8704]
def k0_off266 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v812 : Index := Scalar.indexCast v117
  let c8832 : Index := 8832#32
  ![v812.toNat, 8832]
def k0_off267 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v822 : Index := Scalar.indexCast v117
  let c8960 : Index := 8960#32
  ![v822.toNat, 8960]
def k0_off268 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v832 : Index := Scalar.indexCast v117
  let c9088 : Index := 9088#32
  ![v832.toNat, 9088]
def k0_off269 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v842 : Index := Scalar.indexCast v117
  let c9216 : Index := 9216#32
  ![v842.toNat, 9216]
def k0_off270 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v852 : Index := Scalar.indexCast v117
  let c9344 : Index := 9344#32
  ![v852.toNat, 9344]
def k0_off271 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v862 : Index := Scalar.indexCast v117
  let c9472 : Index := 9472#32
  ![v862.toNat, 9472]
def k0_off272 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v872 : Index := Scalar.indexCast v117
  let c9600 : Index := 9600#32
  ![v872.toNat, 9600]
def k0_off273 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v882 : Index := Scalar.indexCast v117
  let c9728 : Index := 9728#32
  ![v882.toNat, 9728]
def k0_off274 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v892 : Index := Scalar.indexCast v117
  let c9856 : Index := 9856#32
  ![v892.toNat, 9856]
def k0_off275 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v902 : Index := Scalar.indexCast v117
  let c9984 : Index := 9984#32
  ![v902.toNat, 9984]
def k0_off276 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v912 : Index := Scalar.indexCast v117
  let c10112 : Index := 10112#32
  ![v912.toNat, 10112]
def k0_off277 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v922 : Index := Scalar.indexCast v117
  let c10240 : Index := 10240#32
  ![v922.toNat, 10240]
def k0_off278 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v932 : Index := Scalar.indexCast v117
  let c10368 : Index := 10368#32
  ![v932.toNat, 10368]
def k0_off279 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v942 : Index := Scalar.indexCast v117
  let c10496 : Index := 10496#32
  ![v942.toNat, 10496]
def k0_off280 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v952 : Index := Scalar.indexCast v117
  let c10624 : Index := 10624#32
  ![v952.toNat, 10624]
def k0_off281 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v962 : Index := Scalar.indexCast v117
  let c10752 : Index := 10752#32
  ![v962.toNat, 10752]
def k0_off282 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v972 : Index := Scalar.indexCast v117
  let c10880 : Index := 10880#32
  ![v972.toNat, 10880]
def k0_off283 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v982 : Index := Scalar.indexCast v117
  let c11008 : Index := 11008#32
  ![v982.toNat, 11008]
def k0_off284 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v992 : Index := Scalar.indexCast v117
  let c11136 : Index := 11136#32
  ![v992.toNat, 11136]
def k0_off285 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1002 : Index := Scalar.indexCast v117
  let c11264 : Index := 11264#32
  ![v1002.toNat, 11264]
def k0_off286 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1012 : Index := Scalar.indexCast v117
  let c11392 : Index := 11392#32
  ![v1012.toNat, 11392]
def k0_off287 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1022 : Index := Scalar.indexCast v117
  let c11520 : Index := 11520#32
  ![v1022.toNat, 11520]
def k0_off288 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1032 : Index := Scalar.indexCast v117
  let c11648 : Index := 11648#32
  ![v1032.toNat, 11648]
def k0_off289 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1042 : Index := Scalar.indexCast v117
  let c11776 : Index := 11776#32
  ![v1042.toNat, 11776]
def k0_off290 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1052 : Index := Scalar.indexCast v117
  let c11904 : Index := 11904#32
  ![v1052.toNat, 11904]
def k0_off291 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1062 : Index := Scalar.indexCast v117
  let c12032 : Index := 12032#32
  ![v1062.toNat, 12032]
def k0_off292 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1072 : Index := Scalar.indexCast v117
  let c12160 : Index := 12160#32
  ![v1072.toNat, 12160]
def k0_off293 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1082 : Index := Scalar.indexCast v117
  let c12288 : Index := 12288#32
  ![v1082.toNat, 12288]
def k0_off294 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1092 : Index := Scalar.indexCast v117
  let c12416 : Index := 12416#32
  ![v1092.toNat, 12416]
def k0_off295 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1102 : Index := Scalar.indexCast v117
  let c12544 : Index := 12544#32
  ![v1102.toNat, 12544]
def k0_off296 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1112 : Index := Scalar.indexCast v117
  let c12672 : Index := 12672#32
  ![v1112.toNat, 12672]
def k0_off297 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1122 : Index := Scalar.indexCast v117
  let c12800 : Index := 12800#32
  ![v1122.toNat, 12800]
def k0_off298 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1132 : Index := Scalar.indexCast v117
  let c12928 : Index := 12928#32
  ![v1132.toNat, 12928]
def k0_off299 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1142 : Index := Scalar.indexCast v117
  let c13056 : Index := 13056#32
  ![v1142.toNat, 13056]
def k0_off300 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1152 : Index := Scalar.indexCast v117
  let c13184 : Index := 13184#32
  ![v1152.toNat, 13184]
def k0_off301 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1162 : Index := Scalar.indexCast v117
  let c13312 : Index := 13312#32
  ![v1162.toNat, 13312]
def k0_off302 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1172 : Index := Scalar.indexCast v117
  let c13440 : Index := 13440#32
  ![v1172.toNat, 13440]
def k0_off303 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1182 : Index := Scalar.indexCast v117
  let c13568 : Index := 13568#32
  ![v1182.toNat, 13568]
def k0_off304 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1192 : Index := Scalar.indexCast v117
  let c13696 : Index := 13696#32
  ![v1192.toNat, 13696]
def k0_off305 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1202 : Index := Scalar.indexCast v117
  let c13824 : Index := 13824#32
  ![v1202.toNat, 13824]
def k0_off306 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1212 : Index := Scalar.indexCast v117
  let c13952 : Index := 13952#32
  ![v1212.toNat, 13952]
def k0_off307 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1222 : Index := Scalar.indexCast v117
  let c14080 : Index := 14080#32
  ![v1222.toNat, 14080]
def k0_off308 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1232 : Index := Scalar.indexCast v117
  let c14208 : Index := 14208#32
  ![v1232.toNat, 14208]
def k0_off309 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1242 : Index := Scalar.indexCast v117
  let c14336 : Index := 14336#32
  ![v1242.toNat, 14336]
def k0_off310 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1252 : Index := Scalar.indexCast v117
  let c14464 : Index := 14464#32
  ![v1252.toNat, 14464]
def k0_off311 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1262 : Index := Scalar.indexCast v117
  let c14592 : Index := 14592#32
  ![v1262.toNat, 14592]
def k0_off312 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1272 : Index := Scalar.indexCast v117
  let c14720 : Index := 14720#32
  ![v1272.toNat, 14720]
def k0_off313 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1282 : Index := Scalar.indexCast v117
  let c14848 : Index := 14848#32
  ![v1282.toNat, 14848]
def k0_off314 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1292 : Index := Scalar.indexCast v117
  let c14976 : Index := 14976#32
  ![v1292.toNat, 14976]
def k0_off315 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1302 : Index := Scalar.indexCast v117
  let c15104 : Index := 15104#32
  ![v1302.toNat, 15104]
def k0_off316 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1312 : Index := Scalar.indexCast v117
  let c15232 : Index := 15232#32
  ![v1312.toNat, 15232]
def k0_off317 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1322 : Index := Scalar.indexCast v117
  let c15360 : Index := 15360#32
  ![v1322.toNat, 15360]
def k0_off318 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1332 : Index := Scalar.indexCast v117
  let c15488 : Index := 15488#32
  ![v1332.toNat, 15488]
def k0_off319 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1342 : Index := Scalar.indexCast v117
  let c15616 : Index := 15616#32
  ![v1342.toNat, 15616]
def k0_off320 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1352 : Index := Scalar.indexCast v117
  let c15744 : Index := 15744#32
  ![v1352.toNat, 15744]
def k0_off321 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1362 : Index := Scalar.indexCast v117
  let c15872 : Index := 15872#32
  ![v1362.toNat, 15872]
def k0_off322 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1372 : Index := Scalar.indexCast v117
  let c16000 : Index := 16000#32
  ![v1372.toNat, 16000]
def k0_off323 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1382 : Index := Scalar.indexCast v117
  let c16128 : Index := 16128#32
  ![v1382.toNat, 16128]
def k0_off324 (k0_t3 : Fin k0_t3_loop.trips) : Fin 2 → Nat :=
  let c0_i32_48 : BitVec 32 := 0#32
  let c1_i32_49 : BitVec 32 := 1#32
  let arg9 : BitVec 32 := Scf.iv c0_i32_48 c1_i32_49 k0_t3
  let c32_i32 : BitVec 32 := 32#32
  let v116 : BitVec 32 := Scalar.muli arg9 c32_i32
  let v117 : BitVec 32 := v116
  let v1392 : Index := Scalar.indexCast v117
  let c16256 : Index := 16256#32
  ![v1392.toNat, 16256]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x8x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x16384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x8x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16384 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x2048x16384 : Shape := ⟨3, ![4, 2048, 16384]⟩
abbrev S16384 : Shape := ⟨1, ![16384]⟩
abbrev S1024x8x16384 : Shape := ⟨3, ![1024, 8, 16384]⟩
abbrev S8192x16384 : Shape := ⟨2, ![8192, 16384]⟩
abbrev S4x2048 : Shape := ⟨2, ![4, 2048]⟩
abbrev S4x2048x1 : Shape := ⟨3, ![4, 2048, 1]⟩
abbrev S1x1x16384 : Shape := ⟨3, ![1, 1, 16384]⟩
abbrev S4x2048x254 : Shape := ⟨3, ![4, 2048, 254]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x16384, .bf16⟩
  | .hbm, ⟨1, _⟩ => ⟨S4x2048x16384, .bf16⟩
  | .hbm, ⟨2, _⟩ => ⟨S16384, .f32⟩
  | .hbm, ⟨3, _⟩ => ⟨S1024x8x16384, .bf16⟩
  | .hbm, ⟨4, _⟩ => ⟨S8192x16384, .fp8e4m3⟩
  | .hbm, ⟨5, _⟩ => ⟨S4x2048, .f32⟩
  | .local _ .vmem, ⟨0, _⟩ => ⟨S4x2048x16384, .bf16⟩
  | .local _ .vmem, ⟨1, _⟩ => ⟨S4x2048x16384, .bf16⟩
  | .local _ .vmem, ⟨2, _⟩ => ⟨S16384, .f32⟩
  | .local _ .vmem, ⟨3, _⟩ => ⟨S1024x8x16384, .bf16⟩
  | .local _ .vmem, ⟨4, _⟩ => ⟨S8192x16384, .fp8e4m3⟩
  | .local _ .vmem, ⟨5, _⟩ => ⟨S4x2048, .f32⟩
  | _, _ => ⟨S4x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x16384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.FrameBits.lean ====
/-
  The kernel's run at any reading of its floats: whatever the body computes, it leaves its inputs' blocks in place and ends
  holding every window and both scratch buffers, so the launch ends with the arguments unchanged and every counter at zero.
-/
module

public import proofs.«01_k».proof.Proof.Gen.Kernel.Frame
public import proofs.«01_k».proof.Proof.Gen.Kernel.Loops
public import Idealize.ShloMosaic.Lib.Pipeline.ArrRel
public import Idealize.ShloMosaic.Lib.Claim
public import Idealize.ShloMosaic.Lib.VecWindow
public import Idealize.ShloMosaic.Lib.WritesUnit

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 2000000 in
theorem kernelRun (c : Dev nD) (i : grid0.Coords) (arg1 : Memref sig .tc .vmem S16x8x16384 .bf16) (harg1 : arg1.IsWhole) (arg2 : Memref sig .tc .vmem S16x8x16384 .bf16) (harg2 : arg2.IsWhole) (arg3 : Memref sig .tc .vmem S1x16384 .f32) (harg3 : arg3.IsWhole) (arg4 : Memref sig .tc .vmem S16x8x16384 .bf16) (harg4 : arg4.IsWhole) (arg5 : Memref sig .tc .vmem S128x16384 .fp8e4m3) (harg5 : arg5.IsWhole) (arg6 : Memref sig .tc .vmem S4x2048 .f32) (harg6 : arg6.IsWhole) (arg7 : Memref sig .tc .vmem S128x16384 .f32) (harg7 : arg7.IsWhole) (arg8 : Memref sig .tc .vmem S16x8x128 .f32) (harg8 : arg8.IsWhole)
    (x0 : Vec F S16x8x16384 .bf16) (x1 : Vec F S16x8x16384 .bf16) (x2 : Vec F S1x16384 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_residual_rmsnorm_fp8 (F := F) i arg1 harg1 arg2 harg2 arg3 harg3 arg4 harg4 arg5 harg5 arg6 harg6 arg7 harg7 arg8 harg8) K := by
    intro E K
    simp only [cc0_residual_rmsnorm_fp8_eq_skeleton]; unfold cc0_residual_rmsnorm_fp8_skel
    simp only [k0_part82_eq_skeleton, k0_part83_eq_skeleton, k0_part84_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; iexists _; isplitr; swap
      · iexact H3
      ipureintro; rfl
    isplitl [H4]
    · iexists _; iexists _; isplitr; swap
      · iexact H4
      ipureintro; rfl
    isplitl [H5]
    · iexists _; iexists _; isplitr; swap
      · iexact H5
      ipureintro; rfl
    isplitl [HS0]
    · iexists _; iexists _; isplitr; swap
      · iexact HS0
      ipureintro; rfl
    · iexists _; iexists _; isplitr; swap
      · iexact HS1
      ipureintro; rfl

variable (m : (ℓ : Loc nD τ sig) → Buf (Elt F) ℓ) (ρ : Dev nD → PrngReg)

/-- The arrays as the region finds them, and the inputs' blocks, which every step leaves in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The outputs' windows may be left at anything. -/
def ovr : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some fun _ _ _ => True
  | ⟨4, _⟩ => some fun _ _ _ => True
  | ⟨5, _⟩ => some fun _ _ _ => True

/-- The proof data. -/
def rdat (c : Dev nD) : RDat τ (Elt F) Unit ℕ (UR sig nD τ) ℕ cfg0 c := (dats m 0 c).toR.override ovr

theorem rdat_finds (c : Dev nD) {w : Fin cfg0.W} (h : ovr (F := F) w = none) {t : Fin cfg0.N} {X} (hX : (rdat m c).Finds w t X) :
    ∃ d, X = (dats m 0 c).before w t d :=
  (dats m 0 c).toR_finds w t X (((dats m 0 c).toR.override_finds h t X).mp hX)

theorem rdat_after (c : Dev nD) {w : Fin cfg0.W} (h : ovr (F := F) w = none) (t : Fin cfg0.N) (Y X) :
    (rdat m c).after w t Y X = (dats m 0 c).Leaves w t X :=
  congrFun (congrFun (congrFun ((dats m 0 c).toR.override_after_of_eq_none h) t) Y) X

theorem rdat_after_any (c : Dev nD) {w : Fin cfg0.W} (h : ovr (F := F) w = some fun _ _ _ => True) (t : Fin cfg0.N) (Y X) :
    (rdat m c).after w t Y X :=
  (congrFun (congrFun (congrFun ((dats m 0 c).toR.override_after_of_eq_some (w := w) (ovr := ovr) h) t) Y) X).mpr trivial

/-- The two scratch memrefs. -/
abbrev scM0_0 : Memref sig .tc .vmem S128x16384 .f32 := Memref.whole cc0_scratch0
abbrev scM0_1 : Memref sig .tc .vmem S16x8x128 .f32 := Memref.whole cc0_scratch1

/-- The launch's invariant: the scratch memrefs at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- An input's window is left at its block. -/
theorem rdat_after_named (c : Dev nD) {w : Fin cfg0.W} (h : ovr (F := F) w = none) (hl : (dats m 0 c).Leaves w = fun t X => X = (dats m 0 c).after w t) (t : Fin cfg0.N) (Y X)
    (hX : (dats m 0 c).after w t = X) : (rdat m c).after w t Y X := by
  rw [rdat_after m c h, hl]; exact hX.symm

theorem defs₀_row (t : Fin cfg0.N) :
    defs₀ (F := F) .tc cfg0.body (cfg0.bodyArgs t (cfg0.slots t)) = bodyAt0 t := by
  unfold defs₀; rw [Defs.onTc_tc]

set_option maxHeartbeats 800000 in
theorem body_obligation (c : Dev nD) : (rdat m c).BodyObligation (defs₀ (F := F)) Variants.none () Set.univ := fun t Y hY => by
  obtain ⟨_, h0⟩ := rdat_finds m c (w := 0) rfl (hY 0)
  obtain ⟨_, h1⟩ := rdat_finds m c (w := 1) rfl (hY 1)
  obtain ⟨_, h2⟩ := rdat_finds m c (w := 2) rfl (hY 2)
  rw [before0_0] at h0
  rw [before0_1] at h1
  rw [before0_2] at h2
  rw [bigSep_W0, bigSep_W0, defs₀_row, h0, h1, h2]
  rw [show (rdat m c).Φ t.succ = Pipeline.ΦA spec0 c from rfl, show (rdat m c).Φ t.castSucc = Pipeline.ΦA spec0 c from rfl,
    show (rdat m c).owesAt () t.succ = (rdat m c).owesAt () t.castSucc from rfl, PhiA0_eq]
  unfold bodyAt0
  iintro ⟨⟨⟨HS0, HS1⟩, Hg⟩, Ho, H0, H1, H2, H3, H4, H5⟩
  iapply ((kernelRun c (grid0.coords t) _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, ⟨%d3, H3⟩, ⟨%d4, H4⟩, ⟨%d5, H5⟩, HS0, HS1⟩
  isplitl [HS0 HS1 Hg]
  · isplitl [HS0 HS1]
    · isplitl [HS0]
      · iexact HS0
      iexact HS1
    iexact Hg
  isplitl [Ho]; · iexact Ho
  isplitl [H0]
  · iexists _; isplitr; swap
    · iexact H0
    ipureintro; exact rdat_after_named m c rfl rfl t _ _ (after0_0 m c t)
  isplitl [H1]
  · iexists _; isplitr; swap
    · iexact H1
    ipureintro; exact rdat_after_named m c rfl rfl t _ _ (after0_1 m c t)
  isplitl [H2]
  · iexists _; isplitr; swap
    · iexact H2
    ipureintro; exact rdat_after_named m c rfl rfl t _ _ (after0_2 m c t)
  isplitl [H3]
  · iexists _; isplitr; swap
    · iexact H3
    ipureintro; exact rdat_after_any m c rfl t _ _
  isplitl [H4]
  · iexists _; isplitr; swap
    · iexact H4
    ipureintro; exact rdat_after_any m c rfl t _ _
  · iexists _; isplitr; swap
    · iexact H5
    ipureintro; exact rdat_after_any m c rfl t _ _

-- `θ_run_frame`'s implicit arguments are found by unifying its conclusion with this one
set_option backward.isDefEq.respectTransparency.types false in
/-- The launch. -/
theorem run_main : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := A_eq m) (hΦ := fun _ _ => rfl)

/-- THE FRAME: the arguments unchanged, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩) (run_main m ρ)

end Cert.Kernel.Run
-- ==== Proof.Quant.lean ====
/-
  The scale's exponent. A positive value's place among the powers of two, read as an exponent field: the kernel's maximum
  over the 256 fields and the reference's count of powers name the same exponent, and the words the kernel builds from it
  denote the reference's powers of two.
-/
module

public import Idealize.ShloMosaic.PureOps.Ideal
public import Idealize.ShloMosaic.Lib.IdealHost

@[expose] public section

noncomputable section

namespace Cert.Quant

open Idealize.ShloMosaic

/-- What a float of exponent field `j` and no trailing bits denotes. -/
def pw (j : ℕ) : EReal := if j = 0 then 0 else if j = 255 then ⊤ else (((2 : ℝ) ^ ((j : ℤ) - 127) : ℝ) : EReal)

/-- The word of exponent field `j`. -/
def word (j : ℕ) : BitVec 32 := IntOp.shli .vector (BitVec.ofNat 32 j) 23#32

theorem word_parts : ∀ j : Fin 256, ((word j).extractLsb' 31 1 == 1#1) = false ∧ ((word j).extractLsb' 23 8).toNat = j.val
    ∧ ((word j).extractLsb' 0 23).toNat = 0 := by decide +kernel

theorem ieee_parts (b : BitVec 32) (j : ℕ) (h1 : (b.extractLsb' 31 1 == 1#1) = false) (h2 : (b.extractLsb' 23 8).toNat = j)
    (h3 : (b.extractLsb' 0 23).toNat = 0) : Ideal.ieee 8 23 b = pw j := by
  unfold Ideal.ieee pw
  have e1 : (b.extractLsb' (8 + 23) 1 == 1#1) = false := h1
  rw [e1, h2, h3]
  by_cases h0 : j = 0
  · subst h0; simp
  by_cases h5 : j = 255
  · subst h5; simp
  rw [if_neg (by omega), if_neg h0, if_neg h0, if_neg h5]
  congr 1
  have e2 : (((2 ^ 23 + 0 : ℕ)) : ℝ) = (2 : ℝ) ^ (23 : ℤ) := by rw [Nat.add_zero, Nat.cast_pow]; rfl
  rw [if_neg (by decide), one_mul, e2, ← zpow_add₀ (by norm_num)]
  congr 1
  push_cast
  ring

theorem ofBits_word (j : ℕ) (h : j < 256) : Ideal.ofBits .f32 (word j) = pw j :=
  have h := word_parts ⟨j, h⟩
  ieee_parts _ _ h.1 h.2.1 h.2.2

theorem pw_mono {j k : ℕ} (h : j ≤ k) (hk : k < 256) : pw j ≤ pw k := by
  unfold pw
  by_cases h5 : k = 255
  · rw [h5]; simp
  have j5 : j ≠ 255 := by omega
  by_cases h0 : j = 0
  · rw [if_pos h0]
    split_ifs
    · exact le_rfl
    · exact EReal.coe_nonneg.mpr (by positivity)
  rw [if_neg h0, if_neg j5, if_neg (by omega), if_neg h5, EReal.coe_le_coe_iff]
  exact zpow_le_zpow_right₀ (by norm_num) (by omega)

open Classical in
/-- The exponent field of `v`'s power of two. -/
def fld (v : EReal) : ℕ := Nat.findGreatest (fun j => pw j ≤ v) 255

theorem fld_lt (v : EReal) : fld v < 256 := Nat.lt_succ_of_le (Nat.findGreatest_le _)

theorem pw_le_iff {v : EReal} (hv : 0 ≤ v) {j : ℕ} (hj : j < 256) : pw j ≤ v ↔ j ≤ fld v := by
  constructor
  · exact fun h => Nat.le_findGreatest (by omega) h
  · intro h
    have : pw (fld v) ≤ v := by
      unfold fld
      exact Nat.findGreatest_spec (P := fun j => pw j ≤ v) (m := 0) (by omega) (by simpa [pw] using hv)
    exact (pw_mono h (fld_lt v)).trans this

/-- The kernel's maximum over the fields. -/
theorem max_fld {v : EReal} (hv : 0 ≤ v) (b : EReal) (hb : b ≤ 0) :
    Finset.fold max b (fun x : Fin 256 => if pw x.val ≤ v then (((x.val : ℤ) : ℝ) : EReal) else 0) Finset.univ
      = ((fld v : ℝ) : EReal) := by
  apply le_antisymm
  · rw [Finset.fold_max_le]
    refine ⟨hb.trans (EReal.coe_nonneg.mpr (by positivity)), fun x _ => ?_⟩
    split_ifs with h
    · rw [EReal.coe_le_coe_iff]
      have := (pw_le_iff hv x.isLt).mp h
      exact_mod_cast this
    · exact EReal.coe_nonneg.mpr (by positivity)
  · rw [Finset.le_fold_max]
    right
    refine ⟨⟨fld v, fld_lt v⟩, Finset.mem_univ _, ?_⟩
    rw [if_pos ((pw_le_iff hv (fld_lt v)).mpr le_rfl)]
    simp

/-- The reference's count of powers. -/
theorem count_fld {v : EReal} (hv : 0 ≤ v) :
    (∑ x : Fin 254, if pw (x.val + 1) ≤ v then (1 : EReal) else 0) = (((min (fld v) 254 : ℕ) : ℝ) : EReal) := by
  have h : ∀ x : Fin 254, (if pw (x.val + 1) ≤ v then (1 : EReal) else 0) = if x.val < fld v then 1 else 0 := by
    intro x
    have := pw_le_iff hv (j := x.val + 1) (by omega)
    simp only [this, Nat.succ_le_iff]
  rw [Finset.sum_congr rfl fun x _ => h x, Finset.sum_boole]
  have hc : (Finset.univ.filter fun x : Fin 254 => x.val < fld v).card = min (fld v) 254 := by
    rw [Fin.card_filter_val_lt, min_comm]
  rw [hc]
  rfl

theorem exp2_int (k : ℤ) : Ideal.exp2 (((k : ℝ)) : EReal) = (((2 : ℝ) ^ k : ℝ) : EReal) := by
  show ((Real.rpow 2 (k : ℝ) : ℝ) : EReal) = _
  congr 1
  exact Real.rpow_intCast 2 k

theorem pw_eq {j : ℕ} (h0 : 0 < j) (h5 : j < 255) : pw j = Ideal.exp2 ((((j : ℤ) - 127 : ℤ) : ℝ) : EReal) := by
  rw [exp2_int]; unfold pw; rw [if_neg (by omega), if_neg (by omega)]

theorem pw_top_le {v : EReal} : pw 255 ≤ v ↔ v = ⊤ := by simp [pw]

/-- The exponent, from the field: zero where the value underflows or is infinite. -/
def ex (n : ℕ) : ℤ := if n = 0 ∨ n = 255 then 0 else (n : ℤ) - 126

/-- The exponent as the kernel's word. -/
def exw (n : ℕ) : BitVec 32 :=
  Scalar.select (IntOp.ori (IntOp.cmpi .eq (BitVec.ofNat 32 n) 0#32) (IntOp.cmpi .eq (BitVec.ofNat 32 n) 255#32)) 0#32
    (IntOp.subi (BitVec.ofNat 32 n) 126#32)

/-- The fields of the scale and of its inverse. -/
def sfld (e : ℤ) : ℕ := min 255 (e + 127).toNat
def ifld (e : ℤ) : ℕ := min 255 (127 - e).toNat

theorem word_scale : ∀ n : Fin 256, IntOp.shli .vector (IntOp.minsi 255#32 (IntOp.maxsi 0#32 (IntOp.addi (exw n) 127#32))) 23#32
    = word (sfld (ex n)) := by decide +kernel

theorem word_inv : ∀ n : Fin 256,
    IntOp.shli .vector (IntOp.minsi 255#32 (IntOp.maxsi 0#32 (IntOp.addi (IntOp.subi 0#32 (exw n)) 127#32))) 23#32
      = word (ifld (ex n)) := by decide +kernel

theorem word_scale_zero : IntOp.shli .vector (IntOp.minsi 255#32 (IntOp.maxsi 0#32 (IntOp.addi 0#32 127#32))) 23#32
    = word (sfld 0) := by decide +kernel

theorem word_inv_zero :
    IntOp.shli .vector (IntOp.minsi 255#32 (IntOp.maxsi 0#32 (IntOp.addi (IntOp.subi 0#32 0#32) 127#32))) 23#32 = word (ifld 0) := by
  decide +kernel

theorem sfld_lt (e : ℤ) : sfld e < 256 := Nat.lt_succ_of_le (Nat.min_le_left _ _)
theorem ifld_lt (e : ℤ) : ifld e < 256 := Nat.lt_succ_of_le (Nat.min_le_left _ _)

theorem ex_bounds {n : ℕ} (h : n < 256) : -125 ≤ ex n ∧ ex n ≤ 128 := by
  unfold ex; split_ifs <;> omega

theorem scale_eq {e : ℤ} (h : -125 ≤ e ∧ e ≤ 128) :
    pw (sfld e) = if ((127 : ℝ) : EReal) < ((e : ℝ) : EReal) then ⊤ else Ideal.exp2 ((e : ℝ) : EReal) := by
  by_cases hc : e = 128
  · rw [hc, if_pos (EReal.coe_lt_coe_iff.mpr (by norm_num))]; simp [sfld, pw]
  · have : ¬ ((127 : ℝ) : EReal) < ((e : ℝ) : EReal) := by
      rw [EReal.coe_lt_coe_iff]; exact_mod_cast (by omega : ¬ (127 : ℤ) < e)
    rw [if_neg this, pw_eq (by unfold sfld; omega) (by unfold sfld; omega)]
    congr 3
    unfold sfld; omega

theorem inv_eq {e : ℤ} (h : -125 ≤ e ∧ e ≤ 128) :
    pw (ifld e) = if ((126 : ℝ) : EReal) < ((e : ℝ) : EReal) then 0 else Ideal.exp2 (0 - ((e : ℝ) : EReal)) := by
  by_cases hc : 126 < e
  · rw [if_pos (EReal.coe_lt_coe_iff.mpr (by exact_mod_cast hc))]
    have : ifld e = 0 := by unfold ifld; omega
    rw [this]; simp [pw]
  · have hn : ¬ ((126 : ℝ) : EReal) < ((e : ℝ) : EReal) := by rw [EReal.coe_lt_coe_iff]; exact_mod_cast hc
    have he : (0 : EReal) - ((e : ℝ) : EReal) = (((-e : ℤ) : ℝ) : EReal) := by
      rw [zero_sub, Int.cast_neg, EReal.coe_neg]
    rw [if_neg hn, he, pw_eq (by unfold ifld; omega) (by unfold ifld; omega)]
    congr 3
    unfold ifld; omega

theorem fptosi_nat : ∀ n : Fin 256, Ideal.fptosi 32 (((n.val : ℕ) : ℝ) : EReal) = BitVec.ofNat 32 n.val := by
  intro n
  have h0 : (0 : ℝ) ≤ (n.val : ℝ) := by positivity
  unfold Ideal.fptosi
  show BitVec.ofInt 32 (max _ (min _ (if 0 ≤ (n.val : ℝ) then ⌊(n.val : ℝ)⌋ else ⌈(n.val : ℝ)⌉))) = _
  rw [if_pos h0, Int.floor_natCast]
  have : max (-((2 ^ (32 - 1) : ℕ) : ℤ)) (min (((2 ^ (32 - 1) : ℕ) : ℤ) - 1) (n.val : ℤ)) = (n.val : ℤ) := by
    have := n.isLt; omega
  rw [this]
  exact BitVec.ofInt_natCast 32 n.val

theorem fptosi_of_lt {n : ℕ} (h : n < 256) : Ideal.fptosi 32 ((n : ℝ) : EReal) = BitVec.ofNat 32 n := fptosi_nat ⟨n, h⟩

theorem word_scale_of_lt {n : ℕ} (h : n < 256) :
    IntOp.shli .vector (IntOp.minsi 255#32 (IntOp.maxsi 0#32 (IntOp.addi (exw n) 127#32))) 23#32 = word (sfld (ex n)) := word_scale ⟨n, h⟩

theorem word_inv_of_lt {n : ℕ} (h : n < 256) :
    IntOp.shli .vector (IntOp.minsi 255#32 (IntOp.maxsi 0#32 (IntOp.addi (IntOp.subi 0#32 (exw n)) 127#32))) 23#32
      = word (ifld (ex n)) := word_inv ⟨n, h⟩

theorem sitofp_nat (n : ℕ) (h : n < 256) : ((BitVec.ofNat 32 n).toInt : ℤ) = n := by
  rw [BitVec.toInt_eq_toNat_cond, BitVec.toNat_ofNat]
  omega

end Cert.Quant

end
-- ==== Proof.Row.lean ====
/-
  One row of the problem over the extended reals: its inverse root mean square, its scaled entries, its largest magnitude,
  and the scale and codes that follow.
-/
module

public import proofs.«01_k».proof.Proof.Quant

@[expose] public section

noncomputable section

namespace Cert.Row

open Idealize.ShloMosaic Cert.Quant

variable (ρ g : Fin 16384 → EReal)

/-- The inverse root mean square. -/
def inv : EReal := Ideal.rsqrt (Ideal.div (∑ k, ρ k * ρ k) (Ideal.ofBits .f32 0x46800000#32) + Ideal.ofBits .f32 0x358637BD#32)

/-- The scaled entries. -/
def y (k : Fin 16384) : EReal := ρ k * inv ρ * g k

/-- The largest magnitude. -/
def amax : EReal := Finset.fold max (Ideal.ofBits .f32 0xFF800000#32) (fun k => FloatOps.absf (F := Ideal) (φ := .f32) (y ρ g k)) Finset.univ

/-- The exponent's place among the powers of two. -/
def place : ℕ := fld (amax ρ g * Ideal.ofBits .f32 0x3B124925#32)

theorem place_lt : place ρ g < 256 := fld_lt _

/-- The scale's exponent. -/
def e : ℤ := if amax ρ g = 0 then 0 else ex (place ρ g)

/-- The scale and its inverse. -/
def scale : EReal := pw (sfld (e ρ g))
def iscale : EReal := pw (ifld (e ρ g))

/-- The codes. -/
def code (k : Fin 16384) : EReal :=
  min (Ideal.ofBits .f32 0x43E00000#32) (max (Ideal.ofBits .f32 0xC3E00000#32) (y ρ g k * iscale ρ g))

theorem e_bounds : -125 ≤ e ρ g ∧ e ρ g ≤ 128 := by
  unfold e
  split_ifs
  · decide
  · exact ex_bounds (fld_lt _)

theorem bot_f32 : Ideal.ofBits .f32 0xFF800000#32 = ⊥ := by simp [Ideal.ofBits, Ideal.ieee]

theorem absf_nonneg (x : EReal) : 0 ≤ FloatOps.absf (F := Ideal) (φ := .f32) x := by
  show 0 ≤ max x (-x)
  rcases le_total 0 x with h | h
  · exact h.trans (le_max_left _ _)
  · exact (EReal.neg_nonneg.mpr h).trans (le_max_right _ _)

theorem amax_nonneg : 0 ≤ amax ρ g := by
  unfold amax
  rw [Finset.le_fold_max]
  exact Or.inr ⟨0, Finset.mem_univ _, absf_nonneg _⟩

theorem c448_nonneg : 0 ≤ Ideal.ofBits .f32 0x3B124925#32 := by
  have h : ∃ r : ℝ, 0 ≤ r ∧ Ideal.ofBits .f32 0x3B124925#32 = (r : EReal) := by
    refine ⟨_, ?_, by simp [Ideal.ofBits, Ideal.ieee]; rfl⟩
    positivity
  obtain ⟨r, h0, h⟩ := h
  rw [h]; exact EReal.coe_nonneg.mpr h0

theorem v_nonneg : 0 ≤ amax ρ g * Ideal.ofBits .f32 0x3B124925#32 := mul_nonneg (amax_nonneg ρ g) c448_nonneg

/-- Dividing by the row's length is multiplying by its inverse. -/
theorem mean_eq (s : EReal) : s * Ideal.ofBits .f32 0x38800000#32 = Ideal.div s (Ideal.ofBits .f32 0x46800000#32) := by
  have h1 : Ideal.ofBits .f32 0x46800000#32 = pw 141 := ieee_parts 0x46800000#32 141 (by decide) (by decide) (by decide)
  have h2 : Ideal.ofBits .f32 0x38800000#32 = pw 113 := ieee_parts 0x38800000#32 113 (by decide) (by decide) (by decide)
  rw [h1, h2]
  have e1 : pw 141 = (((2 : ℝ) ^ (14 : ℤ) : ℝ) : EReal) := by norm_num [pw]
  have e2 : pw 113 = ((((2 : ℝ) ^ (14 : ℤ))⁻¹ : ℝ) : EReal) := by norm_num [pw]
  rw [e1, e2]
  unfold Ideal.div
  rw [if_neg (by rw [← EReal.coe_zero, EReal.coe_eq_coe_iff]; positivity), EReal.coe_inv]

end Cert.Row

end
-- ==== Proof.Trips.lean ====
/-
  What one trip of each of the kernel's three loops stores, as LISTS: the generated loop lemmas carry the stores a run
  of the trip finds; each is here one recursive list over the column chunks, so that every later fact about a loop is
  about one chunk at a variable position.
-/
module

public import proofs.«01_k».proof.Proof.Gen.KernelIdeal.Loops
public import Idealize.ShloMosaic.Lib.Pipeline.Value
import Mathlib.Tactic.IntervalCases

@[expose] public section

set_option maxRecDepth 65536

noncomputable section

open Idealize.ShloMosaic Idealize.SL.Sem

namespace Cert.KernelIdeal.Val

open Cert.KernelIdeal Cert.KernelIdeal.Gen

/-! ## Unrolled chunks -/

/-- The values `f 0, …, f (n-1)`, last first: the order in which a run lists its stores. -/
def chain {α : Type*} {N : ℕ} (f : Fin N → α) : (n : ℕ) → n ≤ N → List α
  | 0, _ => []
  | n + 1, h => f ⟨n, h⟩ :: chain f n (Nat.le_of_succ_le h)

/-- The left-nested combination `op (… op (op (f 0) (f 1)) …) (f n)`: an unrolled accumulation. -/
def accum {α : Type*} {N : ℕ} (op : α → α → α) (f : Fin N → α) : (n : ℕ) → n < N → α
  | 0, h => f ⟨0, h⟩
  | n + 1, h => op (accum op f n (Nat.lt_of_succ_lt h)) (f ⟨n + 1, h⟩)

theorem mem_chain {α : Type*} {N : ℕ} (f : Fin N → α) (a : α) :
    ∀ (n : ℕ) (h : n ≤ N), a ∈ chain f n h ↔ ∃ c : Fin N, c.val < n ∧ a = f c
  | 0, _ => by simp [chain]
  | n + 1, h => by
    rw [chain, List.mem_cons, mem_chain f a n]
    constructor
    · rintro (rfl | ⟨c, hc, rfl⟩)
      · exact ⟨⟨n, h⟩, Nat.lt_succ_self n, rfl⟩
      · exact ⟨c, Nat.lt_succ_of_lt hc, rfl⟩
    · rintro ⟨c, hc, rfl⟩
      rcases Nat.lt_succ_iff_lt_or_eq.mp hc with hc | hc
      · exact .inr ⟨c, hc, rfl⟩
      · exact .inl (congrArg f (Fin.ext hc))

variable {F : FTy → Type} [FloatOps F]

/-! ## Where a trip reads and writes -/

/-- The word of a loop's counter. -/
abbrev ctr (k : ℕ) : BitVec 32 := Scf.iv 0#32 1#32 k

theorem ctr_eq (k : ℕ) : ctr k = BitVec.ofNat 32 k := by
  simp [ctr, Scf.iv]

theorem trips1 (k : Fin k0_t1_loop.trips) : k.val < 16 := Nat.lt_of_lt_of_le k.isLt k0_t1_abs.2.1
theorem trips2 (k : Fin k0_t2_loop.trips) : k.val < 16 := Nat.lt_of_lt_of_le k.isLt k0_t2_abs.2.1
theorem trips3 (k : Fin k0_t3_loop.trips) : k.val < 4 := Nat.lt_of_lt_of_le k.isLt k0_t3_abs.2.1

/-- The eight-row group a trip of the first two loops works on. -/
abbrev grp (k : ℕ) : ℕ := (Scalar.indexCast (ctr k)).toNat

theorem grp_eq {k : ℕ} (hk : k < 16) : grp k = k := by
  simp only [grp, ctr_eq]
  interval_cases k <;> rfl

/-- The first row of that group. -/
abbrev row8 (k : ℕ) : ℕ := (Scalar.indexCast (Scalar.muli (ctr k) 8#32)).toNat

theorem row8_eq {k : ℕ} (hk : k < 16) : row8 k = 8 * k := by
  simp only [row8, ctr_eq]
  interval_cases k <;> rfl

/-- The first row, and the first eight-row group, a trip of the third loop works on. -/
abbrev row32 (k : ℕ) : ℕ := (Scalar.indexCast (Scalar.muli (ctr k) 32#32)).toNat
abbrev grp4 (k : ℕ) : ℕ := (Scalar.indexCast (Scalar.muli (ctr k) 4#32)).toNat

theorem row32_eq {k : ℕ} (hk : k < 4) : row32 k = 32 * k := by
  simp only [row32, ctr_eq]
  interval_cases k <;> rfl

theorem grp4_eq {k : ℕ} (hk : k < 4) : grp4 k = 4 * k := by
  simp only [grp4, ctr_eq]
  interval_cases k <;> rfl

theorem inbX {k : ℕ} (hk : k < 16) (c : Fin 64) (a) : (![grp k, 0, 256 * c.val] : Fin 3 → ℕ) a + S1x8x256.size a ≤ S16x8x16384.size a := by
  have := c.isLt
  rw [grp_eq hk]
  fin_cases a <;> simp [S1x8x256, S16x8x16384] <;> omega

theorem inbG (c : Fin 64) (a) : (![0, 256 * c.val] : Fin 2 → ℕ) a + S1x256.size a ≤ S1x16384.size a := by
  have := c.isLt
  fin_cases a <;> simp [S1x256, S1x16384] <;> omega

theorem inbY {k : ℕ} (hk : k < 16) (c : Fin 64) (a) : (![row8 k, 256 * c.val] : Fin 2 → ℕ) a + S8x256.size a ≤ S128x16384.size a := by
  have := c.isLt
  rw [row8_eq hk]
  fin_cases a <;> simp [S8x256, S128x16384] <;> omega

theorem inbP {k : ℕ} (hk : k < 16) (a) : (![grp k, 0, 0] : Fin 3 → ℕ) a + S1x8x128.size a ≤ S16x8x128.size a := by
  rw [grp_eq hk]
  fin_cases a <;> simp [S1x8x128, S16x8x128] <;> omega

theorem inbQ {k : ℕ} (hk : k < 4) (a) : (![grp4 k, 0, 0] : Fin 3 → ℕ) a + S4x8x128.size a ≤ S16x8x128.size a := by
  rw [grp4_eq hk]
  fin_cases a <;> simp [S4x8x128, S16x8x128] <;> omega

theorem inbC {k : ℕ} (hk : k < 4) (c : Fin 128) (a) : (![row32 k, 128 * c.val] : Fin 2 → ℕ) a + S32x128.size a ≤ S128x16384.size a := by
  have := c.isLt
  rw [row32_eq hk]
  fin_cases a <;> simp [S32x128, S128x16384] <;> omega

section Lists

variable (𝒱 : Variants) (c : Dev nD) (bd : Option 𝒱.V) (i : grid0.Coords) (arg1 : Memref sig .tc .vmem S16x8x16384 .bf16) (harg1 : arg1.IsWhole) (arg2 : Memref sig .tc .vmem S16x8x16384 .bf16) (harg2 : arg2.IsWhole) (arg3 : Memref sig .tc .vmem S1x16384 .f32) (harg3 : arg3.IsWhole) (arg4 : Memref sig .tc .vmem S16x8x16384 .bf16) (harg4 : arg4.IsWhole) (arg5 : Memref sig .tc .vmem S128x16384 .fp8e4m3) (harg5 : arg5.IsWhole) (arg6 : Memref sig .tc .vmem S4x2048 .f32) (harg6 : arg6.IsWhole) (arg7 : Memref sig .tc .vmem S128x16384 .f32) (harg7 : arg7.IsWhole) (arg8 : Memref sig .tc .vmem S16x8x128 .f32) (harg8 : arg8.IsWhole)

/-! ## The first loop: the sum, and its squares -/

section L1

variable (X1 : BufTy.Contents (Elt F) arg1.view.ty) (X2 : BufTy.Contents (Elt F) arg2.view.ty) (k : Fin k0_t1_loop.trips)

/-- A chunk of eight rows and 256 columns, as loaded. -/
abbrev ldX (m : Memref sig .tc .vmem S16x8x16384 .bf16) (X : BufTy.Contents (Elt F) m.view.ty) {k : ℕ} (hk : k < 16) (c : Fin 64) : Vec F S1x8x256 .bf16 :=
  View.readAt (Elt F) m.view (Rect.unit (s := S16x8x16384) ![grp k, 0, 256 * c.val] S1x8x256.size (inbX hk c)).toLoadRect X

/-- The rounded sum of a chunk. -/
def sumChunk (x y : Vec F S1x8x256 .bf16) : FVec F S8x256 .bf16 :=
  truncf .bf16 (addf (extf .f32 (shapeCast S8x256 x shapeCasts_S1x8x256_S8x256 : FVec F S8x256 .bf16) bitsLt_bf16_f32) (extf .f32 (shapeCast S8x256 y shapeCasts_S1x8x256_S8x256 : FVec F S8x256 .bf16) bitsLt_bf16_f32)) bitsLt_bf16_f32

/-- The squares of a chunk. -/
def sqChunk (x y : Vec F S1x8x256 .bf16) : FVec F S8x256 .f32 :=
  mulf (extf .f32 (sumChunk x y) bitsLt_bf16_f32) (extf .f32 (sumChunk x y) bitsLt_bf16_f32)

def piece1 {k : ℕ} (hk : k < 16) (c : Fin 64) : View.Piece (Elt F) S16x8x16384 .bf16 :=
  ⟨Rect.unit (s := S16x8x16384) ![grp k, 0, 256 * c.val] S1x8x256.size (inbX hk c),
    shapeCast S1x8x256 (sumChunk (ldX arg1 X1 hk c) (ldX arg2 X2 hk c)) shapeCasts_S8x256_S1x8x256⟩

/-- The two halves of a 256-column vector, combined. -/
def halves (op : FVec F S8x128 .f32 → FVec F S8x128 .f32 → FVec F S8x128 .f32) (v : FVec F S8x256 .f32) : FVec F S1x8x128 .f32 :=
  shapeCast S1x8x128 (op (extractStridedSlice S8x128 ![0, 0] v slices_S8x256_o0_0_S8x128) (extractStridedSlice S8x128 ![0, 128] v slices_S8x256_o0_128_S8x128) : FVec F S8x128 .f32) shapeCasts_S8x128_S1x8x128

def part1 {k : ℕ} (hk : k < 16) : FVec F S1x8x128 .f32 :=
  halves addf (accum addf (fun c => sqChunk (ldX arg1 X1 hk c) (ldX arg2 X2 hk c)) 63 (by decide))

set_option maxHeartbeats 2000000 in
theorem t1_r : (trip_k0_t1 (F := F) 𝒱 c bd i arg1 harg1 arg2 harg2 arg3 harg3 arg4 harg4 arg5 harg5 arg6 harg6 arg7 harg7 arg8 harg8 X1 X2 k).1
    = chain (piece1 arg1 arg2 X1 X2 (trips1 k)) 64 (le_refl _) := by
  unfold trip_k0_t1
  rfl

set_option maxHeartbeats 2000000 in
theorem t1_p : (trip_k0_t1 (F := F) 𝒱 c bd i arg1 harg1 arg2 harg2 arg3 harg3 arg4 harg4 arg5 harg5 arg6 harg6 arg7 harg7 arg8 harg8 X1 X2 k).2.1
    = [⟨Rect.unit (s := S16x8x128) ![grp k.val, 0, 0] S1x8x128.size (inbP (trips1 k)), part1 arg1 arg2 X1 X2 (trips1 k)⟩] := by
  unfold trip_k0_t1
  rfl

end L1

/-! ## The second loop: the scaled rows, and their largest entries -/

section L2

variable (X3 : BufTy.Contents (Elt F) arg3.view.ty) (X4 : BufTy.Contents (Elt F) arg4.view.ty)
variable (k : Fin k0_t2_loop.trips) (f7 : BufTy.Contents (Elt F) arg7.view.ty) (f8 : BufTy.Contents (Elt F) arg8.view.ty)

/-- The 128 lanes a trip keeps for its eight rows, as loaded. -/
abbrev ldP {k : ℕ} (hk : k < 16) : Vec F S1x8x128 .f32 :=
  View.readAt (Elt F) arg8.view (Rect.unit (s := S16x8x128) ![grp k, 0, 0] S1x8x128.size (inbP hk)).toLoadRect f8

/-- A chunk of 256 weights, as loaded. -/
abbrev ldG (c : Fin 64) : Vec F S1x256 .f32 :=
  View.readAt (Elt F) arg3.view (Rect.unit (s := S1x16384) ![0, 256 * c.val] S1x256.size (inbG c)).toLoadRect X3

/-- The lanes, twice over. -/
def twice (v : Vec F S1x8x128 .f32) : FVec F S8x256 .f32 :=
  concatenate S8x256 1 [⟨S8x128, shapeCast S8x128 v shapeCasts_S1x8x128_S8x128⟩, ⟨S8x128, shapeCast S8x128 v shapeCasts_S1x8x128_S8x128⟩] concatenates_S8x128_S8x128_S8x256_d1

/-- One scaled chunk. -/
def yChunk (r : Vec F S1x8x256 .bf16) (g : Vec F S1x256 .f32) (n : Vec F S1x8x128 .f32) : FVec F S8x256 .f32 :=
  mulf (mulf (extf .f32 (shapeCast S8x256 r shapeCasts_S1x8x256_S8x256 : FVec F S8x256 .bf16) bitsLt_bf16_f32) (twice n)) (broadcastTo S8x256 (shapeCast S1x256 g shapeCasts_S1x256_S1x256 : FVec F S1x256 .f32) broadcasts_S1x256_S8x256)

def piece2 {k : ℕ} (hk : k < 16) (c : Fin 64) : View.Piece (Elt F) S128x16384 .f32 :=
  ⟨Rect.unit (s := S128x16384) ![row8 k, 256 * c.val] S8x256.size (inbY hk c),
    shapeCast S8x256 (yChunk (ldX arg4 X4 hk c) (ldG arg3 X3 c) (ldP arg8 f8 hk)) shapeCasts_S8x256_S8x256⟩

def part2 {k : ℕ} (hk : k < 16) : FVec F S1x8x128 .f32 :=
  halves maximumf (accum maximumf (fun c => absf (yChunk (ldX arg4 X4 hk c) (ldG arg3 X3 c) (ldP arg8 f8 hk))) 63 (by decide))

set_option maxHeartbeats 2000000 in
theorem t2_y : (trip_k0_t2 (F := F) 𝒱 c bd i arg1 harg1 arg2 harg2 arg3 harg3 arg4 harg4 arg5 harg5 arg6 harg6 arg7 harg7 arg8 harg8 X3 X4 k).1 f7 f8
    = chain (piece2 arg3 arg4 arg8 X3 X4 f8 (trips2 k)) 64 (le_refl _) := by
  unfold trip_k0_t2
  rfl

set_option maxHeartbeats 2000000 in
theorem t2_p : (trip_k0_t2 (F := F) 𝒱 c bd i arg1 harg1 arg2 harg2 arg3 harg3 arg4 harg4 arg5 harg5 arg6 harg6 arg7 harg7 arg8 harg8 X3 X4 k).2.1 f7 f8
    = [⟨Rect.unit (s := S16x8x128) ![grp k.val, 0, 0] S1x8x128.size (inbP (trips2 k)), part2 arg3 arg4 arg8 X3 X4 f8 (trips2 k)⟩] := by
  unfold trip_k0_t2
  rfl

end L2

/-! ## The third loop: the codes -/

section L3

variable (X7 : BufTy.Contents (Elt F) arg7.view.ty) (X8 : BufTy.Contents (Elt F) arg8.view.ty) (k : Fin k0_t3_loop.trips)

abbrev ldQ {k : ℕ} (hk : k < 4) : Vec F S4x8x128 .f32 :=
  View.readAt (Elt F) arg8.view (Rect.unit (s := S16x8x128) ![grp4 k, 0, 0] S4x8x128.size (inbQ hk)).toLoadRect X8

abbrev ldY {k : ℕ} (hk : k < 4) (c : Fin 128) : Vec F S32x128 .f32 :=
  View.readAt (Elt F) arg7.view (Rect.unit (s := S128x16384) ![row32 k, 128 * c.val] S32x128.size (inbC hk c)).toLoadRect X7

/-- One chunk of codes. -/
def codeChunk (y : Vec F S32x128 .f32) (n : Vec F S4x8x128 .f32) : FVec F S32x128 .fp8e4m3 :=
  truncf .fp8e4m3 (minimumf (broadcast S32x128 (Scalar.ofBits .f32 0x43E00000#32 : F .f32)) (maximumf (broadcast S32x128 (Scalar.ofBits .f32 0xC3E00000#32 : F .f32)) (mulf (y : FVec F S32x128 .f32) (shapeCast S32x128 n shapeCasts_S4x8x128_S32x128)))) bitsLt_fp8e4m3_f32

def piece3 {k : ℕ} (hk : k < 4) (c : Fin 128) : View.Piece (Elt F) S128x16384 .fp8e4m3 :=
  ⟨Rect.unit (s := S128x16384) ![row32 k, 128 * c.val] S32x128.size (inbC hk c), codeChunk (ldY arg7 X7 hk c) (ldQ arg8 X8 hk)⟩

set_option maxHeartbeats 2000000 in
theorem t3_c : (trip_k0_t3 (F := F) 𝒱 c bd i arg1 harg1 arg2 harg2 arg3 harg3 arg4 harg4 arg5 harg5 arg6 harg6 arg7 harg7 arg8 harg8 (0#32) X7 X8 k).1
    = chain (piece3 arg7 arg8 X7 X8 (trips3 k)) 128 (le_refl _) := by
  unfold trip_k0_t3
  rfl

end L3

end Lists

end Cert.KernelIdeal.Val
-- ==== Proof.Reads.lean ====
/-
  The kernel's three loops over the extended reals, read ONE ELEMENT AT A TIME: what each loop leaves in the memory it
  writes, as a function of what the memory it reads holds.
-/
module

public import proofs.«01_k».proof.Proof.Trips
public import Idealize.ShloMosaic.Lib.Pointwise
public import Idealize.ShloMosaic.Lib.Writes
public import Idealize.ShloMosaic.PureOps.Ideal
import Mathlib.Tactic.IntervalCases

@[expose] public section

set_option maxRecDepth 65536

noncomputable section

open Idealize.ShloMosaic Idealize.SL.Sem

namespace Cert.KernelIdeal.Val

open Cert.KernelIdeal Cert.KernelIdeal.Gen

/-! ## One chunk at an element -/

section Chunk

variable {F : FTy → Type} [FloatOps F]

/-- Column `256 c + j`. -/
abbrev col (c : Fin 64) (j : Fin 256) : Fin 16384 := ⟨256 * c.val + j.val, by omega⟩

/-- Column `128 c + j`. -/
abbrev col' (c : Fin 128) (j : Fin 128) : Fin 16384 := ⟨128 * c.val + j.val, by omega⟩

theorem emb_X {k : ℕ} (hk : k < 16) (c : Fin 64) (u : Fin 1) (s : Fin 8) (j : Fin 256) :
    (Rect.unit (s := S16x8x16384) ![grp k, 0, 256 * c.val] S1x8x256.size (inbX hk c)).emb (ix3 u s j) = ix3 ⟨k, hk⟩ s (col c j) := by
  refine Rect.emb_eq_of_coords _ _ _ fun a => ?_
  have := grp_eq hk
  fin_cases a <;> simp [Rect.unit, this]

theorem emb_P {k : ℕ} (hk : k < 16) (u : Fin 1) (s : Fin 8) (l : Fin 128) :
    (Rect.unit (s := S16x8x128) ![grp k, 0, 0] S1x8x128.size (inbP hk)).emb (ix3 u s l) = ix3 ⟨k, hk⟩ s l := by
  refine Rect.emb_eq_of_coords _ _ _ fun a => ?_
  have := grp_eq hk
  fin_cases a <;> simp [Rect.unit, this]

theorem emb_G (c : Fin 64) (u : Fin 1) (j : Fin 256) :
    (Rect.unit (s := S1x16384) ![0, 256 * c.val] S1x256.size (inbG c)).emb (ix2 u j) = ix2 0 (col c j) := by
  refine Rect.emb_eq_of_coords _ _ _ fun a => ?_
  fin_cases a <;> simp [Rect.unit]

theorem emb_Y {k : ℕ} (hk : k < 16) (c : Fin 64) (s : Fin 8) (j : Fin 256) :
    (Rect.unit (s := S128x16384) ![row8 k, 256 * c.val] S8x256.size (inbY hk c)).emb (ix2 s j) = ix2 ⟨8 * k + s.val, by omega⟩ (col c j) := by
  refine Rect.emb_eq_of_coords _ _ _ fun a => ?_
  have := row8_eq hk
  fin_cases a <;> simp [Rect.unit, this]

theorem emb_Q {k : ℕ} (hk : k < 4) (g : Fin 4) (s : Fin 8) (l : Fin 128) :
    (Rect.unit (s := S16x8x128) ![grp4 k, 0, 0] S4x8x128.size (inbQ hk)).emb (ix3 g s l) = ix3 ⟨4 * k + g.val, by omega⟩ s l := by
  refine Rect.emb_eq_of_coords _ _ _ fun a => ?_
  have := grp4_eq hk
  fin_cases a <;> simp [Rect.unit, this]

theorem emb_C {k : ℕ} (hk : k < 4) (c : Fin 128) (r : Fin 32) (j : Fin 128) :
    (Rect.unit (s := S128x16384) ![row32 k, 128 * c.val] S32x128.size (inbC hk c)).emb (ix2 r j) = ix2 ⟨32 * k + r.val, by omega⟩ (col' c j) := by
  refine Rect.emb_eq_of_coords _ _ _ fun a => ?_
  have := row32_eq hk
  fin_cases a <;> simp [Rect.unit, this]

end Chunk

/-- An unrolled combination of vectors, at an index. -/
theorem accum_apply {ι α : Type} {N : ℕ} (op : α → α → α) (Op : (ι → α) → (ι → α) → ι → α) (hop : ∀ v w i, Op v w i = op (v i) (w i))
    (f : Fin N → ι → α) (i : ι) : ∀ (n : ℕ) (h : n < N), accum Op f n h i = accum op (fun c => f c i) n h
  | 0, _ => rfl
  | n + 1, h => by rw [accum, accum, hop, accum_apply op Op hop f i n]

section Ideal

theorem sumChunk_apply (x y : Vec Ideal S1x8x256 .bf16) (s : Fin 8) (j : Fin 256) :
    sumChunk (F := Ideal) x y (ix2 s j) = (x (ix3 0 s j) + y (ix3 0 s j) : EReal) := by
  pointwise [sumChunk]

theorem sqChunk_apply (x y : Vec Ideal S1x8x256 .bf16) (s : Fin 8) (j : Fin 256) :
    sqChunk (F := Ideal) x y (ix2 s j) = ((x (ix3 0 s j) + y (ix3 0 s j)) * (x (ix3 0 s j) + y (ix3 0 s j)) : EReal) := by
  pointwise [sqChunk, sumChunk]

theorem yChunk_apply (x : Vec Ideal S1x8x256 .bf16) (g : Vec Ideal S1x256 .f32) (n : Vec Ideal S1x8x128 .f32) (s : Fin 8) (j : Fin 256) :
    yChunk (F := Ideal) x g n (ix2 s j) = (x (ix3 0 s j) * n (ix3 0 s ⟨j.val % 128, Nat.mod_lt _ (by decide)⟩) * g (ix2 0 j) : EReal) := by
  pointwise [yChunk, twice]
  congr 2
  split
  · congr 2
    exact Fin.ext (by simp only; omega)
  · congr 2
    exact Fin.ext (by simp only; omega)

theorem codeChunk_apply (y : Vec Ideal S32x128 .f32) (n : Vec Ideal S4x8x128 .f32) (r : Fin 32) (j : Fin 128) :
    codeChunk (F := Ideal) y n (ix2 r j) = (min (Ideal.ofBits .f32 0x43E00000#32) (max (Ideal.ofBits .f32 0xC3E00000#32) (y (ix2 r j) * n (ix3 ⟨r.val / 8, by omega⟩ ⟨r.val % 8, by omega⟩ j))) : EReal) := by
  pointwise [codeChunk]

theorem halvesAdd_apply (v : FVec Ideal S8x256 .f32) (u : Fin 1) (s : Fin 8) (l : Fin 128) :
    halves (F := Ideal) addf v (ix3 u s l) = (v (ix2 s ⟨l.val, by omega⟩) + v (ix2 s ⟨128 + l.val, by omega⟩) : EReal) := by
  pointwise [halves]

theorem halvesMax_apply (v : FVec Ideal S8x256 .f32) (u : Fin 1) (s : Fin 8) (l : Fin 128) :
    halves (F := Ideal) maximumf v (ix3 u s l) = (max (v (ix2 s ⟨l.val, by omega⟩)) (v (ix2 s ⟨128 + l.val, by omega⟩)) : EReal) := by
  pointwise [halves]

/-! ## What the loops leave, as functions of what they read -/

/-- The sum of the two inputs. -/
def Rb (x1 x2 : Vec Ideal S16x8x16384 .bf16) : Vec Ideal S16x8x16384 .bf16 := fun y => (x1 y + x2 y : EReal)

/-- The kernel's partial sum of squares at one lane of one row: columns `l`, `l + 256`, …, and `l + 128`, `l + 384`, …. -/
def Pb (x1 x2 : Vec Ideal S16x8x16384 .bf16) : Vec Ideal S16x8x128 .f32 := fun y =>
  (accum (fun a b : EReal => a + b) (fun c => (Rb x1 x2 (ix3 (y 0) (y 1) (col c ⟨(y 2).val, Nat.lt_of_lt_of_le (y 2).isLt (by decide)⟩)) : EReal) * Rb x1 x2 (ix3 (y 0) (y 1) (col c ⟨(y 2).val, Nat.lt_of_lt_of_le (y 2).isLt (by decide)⟩))) 63 (by decide)
    + accum (fun a b : EReal => a + b) (fun c => (Rb x1 x2 (ix3 (y 0) (y 1) (col c ⟨128 + (y 2).val, Nat.add_lt_add_left (y 2).isLt 128⟩)) : EReal) * Rb x1 x2 (ix3 (y 0) (y 1) (col c ⟨128 + (y 2).val, Nat.add_lt_add_left (y 2).isLt 128⟩))) 63 (by decide) : EReal)

/-- The scaled rows. -/
def Yb (r : Vec Ideal S16x8x16384 .bf16) (g : Vec Ideal S1x16384 .f32) (n : Vec Ideal S16x8x128 .f32) : Vec Ideal S128x16384 .f32 := fun y =>
  (r (ix3 ⟨(y 0).val / 8, by have : (y 0).val < 128 := (y 0).isLt; omega⟩ ⟨(y 0).val % 8, Nat.mod_lt _ (by decide)⟩ (y 1))
    * n (ix3 ⟨(y 0).val / 8, by have : (y 0).val < 128 := (y 0).isLt; omega⟩ ⟨(y 0).val % 8, Nat.mod_lt _ (by decide)⟩ ⟨(y 1).val % 128, Nat.mod_lt _ (by decide)⟩)
    * g (ix2 0 (y 1)) : EReal)

/-- The kernel's largest magnitude at one lane of one row. -/
def Mb (v : Vec Ideal S128x16384 .f32) : Vec Ideal S16x8x128 .f32 := fun y =>
  (max (accum (fun a b : EReal => max a b) (fun c => (FloatOps.absf (F := Ideal) (φ := .f32) (v (ix2 ⟨8 * (y 0).val + (y 1).val, by have : (y 0).val < 16 := (y 0).isLt; have : (y 1).val < 8 := (y 1).isLt; omega⟩ (col c ⟨(y 2).val, Nat.lt_of_lt_of_le (y 2).isLt (by decide)⟩))) : EReal)) 63 (by decide))
    (accum (fun a b : EReal => max a b) (fun c => (FloatOps.absf (F := Ideal) (φ := .f32) (v (ix2 ⟨8 * (y 0).val + (y 1).val, by have : (y 0).val < 16 := (y 0).isLt; have : (y 1).val < 8 := (y 1).isLt; omega⟩ (col c ⟨128 + (y 2).val, Nat.add_lt_add_left (y 2).isLt 128⟩))) : EReal)) 63 (by decide)) : EReal)

/-- The codes. -/
def Cb (y : Vec Ideal S128x16384 .f32) (n : Vec Ideal S16x8x128 .f32) : Vec Ideal S128x16384 .fp8e4m3 := fun x =>
  (min (Ideal.ofBits .f32 0x43E00000#32) (max (Ideal.ofBits .f32 0xC3E00000#32) (y x * n (ix3 ⟨(x 0).val / 8, by have : (x 0).val < 128 := (x 0).isLt; omega⟩ ⟨(x 0).val % 8, Nat.mod_lt _ (by decide)⟩ ⟨(x 1).val % 128, Nat.mod_lt _ (by decide)⟩))) : EReal)

theorem mem_set_of_emb {s : Shape} (r : Rect s) (x : r.shape.Idx) {y : s.Idx} (h : r.emb x = y) : y ∈ r.set := by
  rw [← Rect.map_emb_univ]
  exact Finset.mem_map.mpr ⟨x, Finset.mem_univ _, h⟩

section Lists

variable (𝒱 : Variants) (c : Dev nD) (bd : Option 𝒱.V) (i : grid0.Coords) (arg1 : Memref sig .tc .vmem S16x8x16384 .bf16) (harg1 : arg1.IsWhole) (arg2 : Memref sig .tc .vmem S16x8x16384 .bf16) (harg2 : arg2.IsWhole) (arg3 : Memref sig .tc .vmem S1x16384 .f32) (harg3 : arg3.IsWhole) (arg4 : Memref sig .tc .vmem S16x8x16384 .bf16) (harg4 : arg4.IsWhole) (arg5 : Memref sig .tc .vmem S128x16384 .fp8e4m3) (harg5 : arg5.IsWhole) (arg6 : Memref sig .tc .vmem S4x2048 .f32) (harg6 : arg6.IsWhole) (arg7 : Memref sig .tc .vmem S128x16384 .f32) (harg7 : arg7.IsWhole) (arg8 : Memref sig .tc .vmem S16x8x128 .f32) (harg8 : arg8.IsWhole)

theorem ldX_apply (m : Memref sig .tc .vmem S16x8x16384 .bf16) (X : BufTy.Contents (Elt Ideal) m.view.ty) {k : ℕ} (hk : k < 16) (c : Fin 64) (u : Fin 1) (s : Fin 8) (j : Fin 256) :
    ldX m X hk c (ix3 u s j) = m.view.read (Elt Ideal) X (ix3 ⟨k, hk⟩ s (col c j)) :=
  congrArg (m.view.read (Elt Ideal) X) (emb_X hk c u s j)

/-! ### The first loop -/

section L1

variable (X1 : BufTy.Contents (Elt Ideal) arg1.view.ty) (X2 : BufTy.Contents (Elt Ideal) arg2.view.ty)

theorem piece1_val {k : ℕ} (hk : k < 16) (c : Fin 64) (x : S1x8x256.Idx) :
    (piece1 arg1 arg2 X1 X2 hk c).2 x = Rb (arg1.view.read (Elt Ideal) X1) (arg2.view.read (Elt Ideal) X2) ((piece1 arg1 arg2 X1 X2 hk c).1.emb x) := by
  obtain ⟨u, s, j, rfl⟩ : ∃ u s j, x = ix3 u s j := ⟨x 0, x 1, x 2, eq_ix3 x⟩
  refine Eq.trans ?_ (congrArg (Rb (arg1.view.read (Elt Ideal) X1) (arg2.view.read (Elt Ideal) X2)) (emb_X hk c u s j).symm)
  show shapeCast S1x8x256 (sumChunk (F := Ideal) (ldX arg1 X1 hk c) (ldX arg2 X2 hk c)) shapeCasts_S8x256_S1x8x256 (ix3 u s j) = _
  pointwise
  rw [sumChunk_apply, ldX_apply, ldX_apply]
  rfl

theorem part1_val {k : ℕ} (hk : k < 16) (x : S1x8x128.Idx) :
    part1 arg1 arg2 X1 X2 hk x = Pb (arg1.view.read (Elt Ideal) X1) (arg2.view.read (Elt Ideal) X2) ((Rect.unit (s := S16x8x128) ![grp k, 0, 0] S1x8x128.size (inbP hk)).emb x) := by
  obtain ⟨u, s, l, rfl⟩ : ∃ u s l, x = ix3 u s l := ⟨x 0, x 1, x 2, eq_ix3 x⟩
  rw [emb_P hk u s l, part1, halvesAdd_apply]
  rw [accum_apply (fun a b : EReal => a + b) (addf (F := Ideal) (φ := .f32)) (fun _ _ _ => rfl), accum_apply (fun a b : EReal => a + b) (addf (F := Ideal) (φ := .f32)) (fun _ _ _ => rfl)]
  simp only [sqChunk_apply, ldX_apply]
  rfl

theorem mem_pb1_r (p) : ∀ n : ℕ, n ≤ k0_t1_loop.trips → (p ∈ (pb_k0_t1 (F := Ideal) 𝒱 c bd i arg1 harg1 arg2 harg2 arg3 harg3 arg4 harg4 arg5 harg5 arg6 harg6 arg7 harg7 arg8 harg8 X1 X2 n).1
    ↔ ∃ k : Fin k0_t1_loop.trips, k.val < n ∧ p ∈ chain (piece1 arg1 arg2 X1 X2 (trips1 k)) 64 (le_refl _))
  | 0, _ => by simp [pb_k0_t1]
  | n + 1, h => by
    have e := pb_k0_t1_succ (F := Ideal) 𝒱 c bd i arg1 harg1 arg2 harg2 arg3 harg3 arg4 harg4 arg5 harg5 arg6 harg6 arg7 harg7 arg8 harg8 X1 X2 ⟨n, h⟩
    rw [show (pb_k0_t1 (F := Ideal) 𝒱 c bd i arg1 harg1 arg2 harg2 arg3 harg3 arg4 harg4 arg5 harg5 arg6 harg6 arg7 harg7 arg8 harg8 X1 X2 (n + 1)).1 = _ from (congrArg Prod.fst e).trans (congrArg (· ++ (pb_k0_t1 (F := Ideal) 𝒱 c bd i arg1 harg1 arg2 harg2 arg3 harg3 arg4 harg4 arg5 harg5 arg6 harg6 arg7 harg7 arg8 harg8 X1 X2 n).1) (t1_r 𝒱 c bd i arg1 harg1 arg2 harg2 arg3 harg3 arg4 harg4 arg5 harg5 arg6 harg6 arg7 harg7 arg8 harg8 X1 X2 ⟨n, h⟩)), List.mem_append, mem_pb1_r p n (Nat.le_of_succ_le h)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.mp hk with hk | hk
      · exact .inr ⟨k, hk, hp⟩
      · obtain rfl : k = ⟨n, h⟩ := Fin.ext hk
        exact .inl hp

theorem mem_pb1_p (p) : ∀ n : ℕ, n ≤ k0_t1_loop.trips → (p ∈ (pb_k0_t1 (F := Ideal) 𝒱 c bd i arg1 harg1 arg2 harg2 arg3 harg3 arg4 harg4 arg5 harg5 arg6 harg6 arg7 harg7 arg8 harg8 X1 X2 n).2
    ↔ ∃ k : Fin k0_t1_loop.trips, k.val < n ∧ p = ⟨Rect.unit (s := S16x8x128) ![grp k.val, 0, 0] S1x8x128.size (inbP (trips1 k)), part1 arg1 arg2 X1 X2 (trips1 k)⟩)
  | 0, _ => by simp [pb_k0_t1]
  | n + 1, h => by
    have e := pb_k0_t1_succ (F := Ideal) 𝒱 c bd i arg1 harg1 arg2 harg2 arg3 harg3 arg4 harg4 arg5 harg5 arg6 harg6 arg7 harg7 arg8 harg8 X1 X2 ⟨n, h⟩
    rw [show (pb_k0_t1 (F := Ideal) 𝒱 c bd i arg1 harg1 arg2 harg2 arg3 harg3 arg4 harg4 arg5 harg5 arg6 harg6 arg7 harg7 arg8 harg8 X1 X2 (n + 1)).2 = _ from (congrArg Prod.snd e).trans (congrArg (· ++ (pb_k0_t1 (F := Ideal) 𝒱 c bd i arg1 harg1 arg2 harg2 arg3 harg3 arg4 harg4 arg5 harg5 arg6 harg6 arg7 harg7 arg8 harg8 X1 X2 n).2) (t1_p 𝒱 c bd i arg1 harg1 arg2 harg2 arg3 harg3 arg4 harg4 arg5 harg5 arg6 harg6 arg7 harg7 arg8 harg8 X1 X2 ⟨n, h⟩)), List.mem_append, mem_pb1_p p n (Nat.le_of_succ_le h), List.mem_singleton]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.mp hk with hk | hk
      · exact .inr ⟨k, hk, hp⟩
      · obtain rfl : k = ⟨n, h⟩ := Fin.ext hk
        exact .inl hp

theorem trips1_eq : k0_t1_loop.trips = 16 := by decide
theorem trips2_eq : k0_t2_loop.trips = 16 := by decide
theorem trips3_eq : k0_t3_loop.trips = 4 := by decide

theorem loop1_r (G : BufTy.Contents (Elt Ideal) arg4.view.ty) :
    arg4.view.read (Elt Ideal) (arg4.view.writes (Elt Ideal) G (pb_k0_t1 (F := Ideal) 𝒱 c bd i arg1 harg1 arg2 harg2 arg3 harg3 arg4 harg4 arg5 harg5 arg6 harg6 arg7 harg7 arg8 harg8 X1 X2 k0_t1_loop.trips).1)
      = Rb (arg1.view.read (Elt Ideal) X1) (arg2.view.read (Elt Ideal) X2) := by
  funext y
  refine View.read_writes_apply_of_pieces _ _ _ _ (fun p hp x => ?_) y ?_
  · obtain ⟨k, -, hp⟩ := (mem_pb1_r 𝒱 c bd i arg1 harg1 arg2 harg2 arg3 harg3 arg4 harg4 arg5 harg5 arg6 harg6 arg7 harg7 arg8 harg8 X1 X2 p _ (le_refl _)).mp hp
    obtain ⟨ch, -, rfl⟩ := (mem_chain _ _ _ _).mp hp
    exact piece1_val arg1 arg2 X1 X2 (trips1 k) ch x
  · obtain ⟨g, s, q, rfl⟩ : ∃ g s q, y = ix3 g s q := ⟨y 0, y 1, y 2, eq_ix3 y⟩
    have hg : g.val < k0_t1_loop.trips := by rw [trips1_eq]; exact g.isLt
    refine ⟨piece1 arg1 arg2 X1 X2 (trips1 ⟨g.val, hg⟩) ⟨q.val / 256, by omega⟩, ?_, ?_⟩
    · exact (mem_pb1_r 𝒱 c bd i arg1 harg1 arg2 harg2 arg3 harg3 arg4 harg4 arg5 harg5 arg6 harg6 arg7 harg7 arg8 harg8 X1 X2 _ _ (le_refl _)).mpr ⟨⟨g.val, hg⟩, hg, (mem_chain _ _ _ _).mpr ⟨_, Fin.isLt _, rfl⟩⟩
    · refine mem_set_of_emb _ (ix3 (n0 := 1) (n1 := 8) (n2 := 256) 0 s ⟨q.val % 256, Nat.mod_lt _ (by decide)⟩) ((emb_X (trips1 ⟨g.val, hg⟩) _ _ _ _).trans ?_)
      congr 1
      exact Fin.ext (Nat.div_add_mod q.val 256)

theorem loop1_p (G : BufTy.Contents (Elt Ideal) arg8.view.ty) :
    arg8.view.read (Elt Ideal) (arg8.view.writes (Elt Ideal) G (pb_k0_t1 (F := Ideal) 𝒱 c bd i arg1 harg1 arg2 harg2 arg3 harg3 arg4 harg4 arg5 harg5 arg6 harg6 arg7 harg7 arg8 harg8 X1 X2 k0_t1_loop.trips).2)
      = Pb (arg1.view.read (Elt Ideal) X1) (arg2.view.read (Elt Ideal) X2) := by
  funext y
  refine View.read_writes_apply_of_pieces _ _ _ _ (fun p hp x => ?_) y ?_
  · obtain ⟨k, -, rfl⟩ := (mem_pb1_p 𝒱 c bd i arg1 harg1 arg2 harg2 arg3 harg3 arg4 harg4 arg5 harg5 arg6 harg6 arg7 harg7 arg8 harg8 X1 X2 p _ (le_refl _)).mp hp
    exact part1_val arg1 arg2 X1 X2 (trips1 k) x
  · obtain ⟨g, s, l, rfl⟩ : ∃ g s l, y = ix3 g s l := ⟨y 0, y 1, y 2, eq_ix3 y⟩
    have hg : g.val < k0_t1_loop.trips := by rw [trips1_eq]; exact g.isLt
    refine ⟨_, (mem_pb1_p 𝒱 c bd i arg1 harg1 arg2 harg2 arg3 harg3 arg4 harg4 arg5 harg5 arg6 harg6 arg7 harg7 arg8 harg8 X1 X2 _ _ (le_refl _)).mpr ⟨⟨g.val, hg⟩, hg, rfl⟩, ?_⟩
    exact mem_set_of_emb _ (ix3 (n0 := 1) (n1 := 8) (n2 := 128) 0 s l) (emb_P (trips1 ⟨g.val, hg⟩) _ _ _)

end L1

/-! ### The second loop -/

section L2

variable (X3 : BufTy.Contents (Elt Ideal) arg3.view.ty) (X4 : BufTy.Contents (Elt Ideal) arg4.view.ty)
variable (G7 : BufTy.Contents (Elt Ideal) arg7.view.ty) (G8 : BufTy.Contents (Elt Ideal) arg8.view.ty)

/-- What the second loop's trips before `n` have stored among the lanes. -/
abbrev st8 (n : ℕ) : BufTy.Contents (Elt Ideal) arg8.view.ty :=
  arg8.view.writes (Elt Ideal) G8 (pb_k0_t2 (F := Ideal) 𝒱 c bd i arg1 harg1 arg2 harg2 arg3 harg3 arg4 harg4 arg5 harg5 arg6 harg6 arg7 harg7 arg8 harg8 X3 X4 G7 G8 n).2

theorem mem_pb2_y (p) : ∀ n : ℕ, n ≤ k0_t2_loop.trips → (p ∈ (pb_k0_t2 (F := Ideal) 𝒱 c bd i arg1 harg1 arg2 harg2 arg3 harg3 arg4 harg4 arg5 harg5 arg6 harg6 arg7 harg7 arg8 harg8 X3 X4 G7 G8 n).1
    ↔ ∃ k : Fin k0_t2_loop.trips, k.val < n ∧ p ∈ chain (piece2 arg3 arg4 arg8 X3 X4 (st8 𝒱 c bd i arg1 harg1 arg2 harg2 arg3 harg3 arg4 harg4 arg5 harg5 arg6 harg6 arg7 harg7 arg8 harg8 X3 X4 G7 G8 k.val) (trips2 k)) 64 (le_refl _))
  | 0, _ => by simp [pb_k0_t2]
  | n + 1, h => by
    have e := pb_k0_t2_succ (F := Ideal) 𝒱 c bd i arg1 harg1 arg2 harg2 arg3 harg3 arg4 harg4 arg5 harg5 arg6 harg6 arg7 harg7 arg8 harg8 X3 X4 G7 G8 ⟨n, h⟩
    rw [show (pb_k0_t2 (F := Ideal) 𝒱 c bd i arg1 harg1 arg2 harg2 arg3 harg3 arg4 harg4 arg5 harg5 arg6 harg6 arg7 harg7 arg8 harg8 X3 X4 G7 G8 (n + 1)).1 = _ from (congrArg Prod.fst e).trans (congrArg (· ++ (pb_k0_t2 (F := Ideal) 𝒱 c bd i arg1 harg1 arg2 harg2 arg3 harg3 arg4 harg4 arg5 harg5 arg6 harg6 arg7 harg7 arg8 harg8 X3 X4 G7 G8 n).1) (t2_y 𝒱 c bd i arg1 harg1 arg2 harg2 arg3 harg3 arg4 harg4 arg5 harg5 arg6 harg6 arg7 harg7 arg8 harg8 X3 X4 ⟨n, h⟩ _ _)), List.mem_append, mem_pb2_y p n (Nat.le_of_succ_le h)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.mp hk with hk | hk
      · exact .inr ⟨k, hk, hp⟩
      · obtain rfl : k = ⟨n, h⟩ := Fin.ext hk
        exact .inl hp

theorem mem_pb2_p (p) : ∀ n : ℕ, n ≤ k0_t2_loop.trips → (p ∈ (pb_k0_t2 (F := Ideal) 𝒱 c bd i arg1 harg1 arg2 harg2 arg3 harg3 arg4 harg4 arg5 harg5 arg6 harg6 arg7 harg7 arg8 harg8 X3 X4 G7 G8 n).2
    ↔ ∃ k : Fin k0_t2_loop.trips, k.val < n ∧ p = ⟨Rect.unit (s := S16x8x128) ![grp k.val, 0, 0] S1x8x128.size (inbP (trips2 k)), part2 arg3 arg4 arg8 X3 X4 (st8 𝒱 c bd i arg1 harg1 arg2 harg2 arg3 harg3 arg4 harg4 arg5 harg5 arg6 harg6 arg7 harg7 arg8 harg8 X3 X4 G7 G8 k.val) (trips2 k)⟩)
  | 0, _ => by simp [pb_k0_t2]
  | n + 1, h => by
    have e := pb_k0_t2_succ (F := Ideal) 𝒱 c bd i arg1 harg1 arg2 harg2 arg3 harg3 arg4 harg4 arg5 harg5 arg6 harg6 arg7 harg7 arg8 harg8 X3 X4 G7 G8 ⟨n, h⟩
    rw [show (pb_k0_t2 (F := Ideal) 𝒱 c bd i arg1 harg1 arg2 harg2 arg3 harg3 arg4 harg4 arg5 harg5 arg6 harg6 arg7 harg7 arg8 harg8 X3 X4 G7 G8 (n + 1)).2 = _ from (congrArg Prod.snd e).trans (congrArg (· ++ (pb_k0_t2 (F := Ideal) 𝒱 c bd i arg1 harg1 arg2 harg2 arg3 harg3 arg4 harg4 arg5 harg5 arg6 harg6 arg7 harg7 arg8 harg8 X3 X4 G7 G8 n).2) (t2_p 𝒱 c bd i arg1 harg1 arg2 harg2 arg3 harg3 arg4 harg4 arg5 harg5 arg6 harg6 arg7 harg7 arg8 harg8 X3 X4 ⟨n, h⟩ _ _)), List.mem_append, mem_pb2_p p n (Nat.le_of_succ_le h), List.mem_singleton]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.mp hk with hk | hk
      · exact .inr ⟨k, hk, hp⟩
      · obtain rfl : k = ⟨n, h⟩ := Fin.ext hk
        exact .inl hp

/-- A trip's own lanes are still what the loop found there. -/
theorem ldP_apply (k : Fin k0_t2_loop.trips) (u : Fin 1) (s : Fin 8) (l : Fin 128) :
    ldP arg8 (st8 𝒱 c bd i arg1 harg1 arg2 harg2 arg3 harg3 arg4 harg4 arg5 harg5 arg6 harg6 arg7 harg7 arg8 harg8 X3 X4 G7 G8 k.val) (trips2 k) (ix3 u s l)
      = arg8.view.read (Elt Ideal) G8 (ix3 ⟨k.val, trips2 k⟩ s l) := by
  refine (congrArg (arg8.view.read (Elt Ideal) _) (emb_P (trips2 k) u s l)).trans ?_
  refine View.read_writes_apply_of_forall_not_mem _ _ _ _ fun p hp => ?_
  obtain ⟨k', hk', rfl⟩ := (mem_pb2_p 𝒱 c bd i arg1 harg1 arg2 harg2 arg3 harg3 arg4 harg4 arg5 harg5 arg6 harg6 arg7 harg7 arg8 harg8 X3 X4 G7 G8 p _ (Nat.le_of_lt k.isLt)).mp hp
  refine Rect.not_mem_set_of_axis _ _ 0 (grp k'.val) 1 rfl rfl rfl (.inr ?_)
  rw [grp_eq (trips2 k')]
  exact hk'

theorem ldG_apply (c : Fin 64) (u : Fin 1) (j : Fin 256) :
    ldG arg3 X3 c (ix2 u j) = arg3.view.read (Elt Ideal) X3 (ix2 0 (col c j)) :=
  congrArg (arg3.view.read (Elt Ideal) X3) (emb_G c u j)

/-- A scaled chunk's elements are the scaled rows'. -/
theorem yChunk_val (k : Fin k0_t2_loop.trips) (ch : Fin 64) (s : Fin 8) (j : Fin 256) :
    yChunk (F := Ideal) (ldX arg4 X4 (trips2 k) ch) (ldG arg3 X3 ch) (ldP arg8 (st8 𝒱 c bd i arg1 harg1 arg2 harg2 arg3 harg3 arg4 harg4 arg5 harg5 arg6 harg6 arg7 harg7 arg8 harg8 X3 X4 G7 G8 k.val) (trips2 k)) (ix2 s j)
      = Yb (arg4.view.read (Elt Ideal) X4) (arg3.view.read (Elt Ideal) X3) (arg8.view.read (Elt Ideal) G8) (ix2 ⟨8 * k.val + s.val, by have := trips2 k; omega⟩ (col ch j)) := by
  rw [yChunk_apply, ldP_apply, ldX_apply, ldG_apply]
  have hk := trips2 k
  have e1 : ∀ q : Fin 128, (ix3 (⟨k.val, hk⟩ : Fin 16) s q) = ix3 ⟨(8 * k.val + s.val) / 8, by omega⟩ ⟨(8 * k.val + s.val) % 8, Nat.mod_lt _ (by decide)⟩ q := fun q => by
    congr 1
    · exact Fin.ext (by show k.val = (8 * k.val + s.val) / 8; omega)
    · exact Fin.ext (by show s.val = (8 * k.val + s.val) % 8; omega)
  have e2 : ∀ q : Fin 16384, (ix3 (⟨k.val, hk⟩ : Fin 16) s q) = ix3 ⟨(8 * k.val + s.val) / 8, by omega⟩ ⟨(8 * k.val + s.val) % 8, Nat.mod_lt _ (by decide)⟩ q := fun q => by
    congr 1
    · exact Fin.ext (by show k.val = (8 * k.val + s.val) / 8; omega)
    · exact Fin.ext (by show s.val = (8 * k.val + s.val) % 8; omega)
  have e3 : (⟨j.val % 128, Nat.mod_lt _ (by decide)⟩ : Fin 128) = ⟨(col ch j).val % 128, Nat.mod_lt _ (by decide)⟩ := Fin.ext (by show j.val % 128 = (256 * ch.val + j.val) % 128; omega)
  rw [e1, e2, e3]
  rfl

theorem part2_val (k : Fin k0_t2_loop.trips) (x : S1x8x128.Idx) :
    part2 arg3 arg4 arg8 X3 X4 (st8 𝒱 c bd i arg1 harg1 arg2 harg2 arg3 harg3 arg4 harg4 arg5 harg5 arg6 harg6 arg7 harg7 arg8 harg8 X3 X4 G7 G8 k.val) (trips2 k) x
      = Mb (Yb (arg4.view.read (Elt Ideal) X4) (arg3.view.read (Elt Ideal) X3) (arg8.view.read (Elt Ideal) G8)) ((Rect.unit (s := S16x8x128) ![grp k.val, 0, 0] S1x8x128.size (inbP (trips2 k))).emb x) := by
  obtain ⟨u, s, l, rfl⟩ : ∃ u s l, x = ix3 u s l := ⟨x 0, x 1, x 2, eq_ix3 x⟩
  rw [emb_P (trips2 k) u s l, part2, halvesMax_apply]
  rw [accum_apply (fun a b : EReal => max a b) (maximumf (F := Ideal) (φ := .f32)) (fun _ _ _ => rfl), accum_apply (fun a b : EReal => max a b) (maximumf (F := Ideal) (φ := .f32)) (fun _ _ _ => rfl)]
  have ha : ∀ (v : FVec Ideal S8x256 .f32) (z), absf v z = FloatOps.absf (v z) := fun _ _ => rfl
  simp only [ha, yChunk_val]
  rfl

theorem loop2_y :
    arg7.view.read (Elt Ideal) (arg7.view.writes (Elt Ideal) G7 (pb_k0_t2 (F := Ideal) 𝒱 c bd i arg1 harg1 arg2 harg2 arg3 harg3 arg4 harg4 arg5 harg5 arg6 harg6 arg7 harg7 arg8 harg8 X3 X4 G7 G8 k0_t2_loop.trips).1)
      = Yb (arg4.view.read (Elt Ideal) X4) (arg3.view.read (Elt Ideal) X3) (arg8.view.read (Elt Ideal) G8) := by
  funext y
  refine View.read_writes_apply_of_pieces _ _ _ _ (fun p hp x => ?_) y ?_
  · obtain ⟨k, -, hp⟩ := (mem_pb2_y 𝒱 c bd i arg1 harg1 arg2 harg2 arg3 harg3 arg4 harg4 arg5 harg5 arg6 harg6 arg7 harg7 arg8 harg8 X3 X4 G7 G8 p _ (le_refl _)).mp hp
    obtain ⟨ch, -, rfl⟩ := (mem_chain _ _ _ _).mp hp
    obtain ⟨s, j, rfl⟩ : ∃ (s : Fin 8) (j : Fin 256), x = ix2 s j := ⟨x 0, x 1, eq_ix2 x⟩
    refine Eq.trans ?_ (congrArg (Yb (arg4.view.read (Elt Ideal) X4) (arg3.view.read (Elt Ideal) X3) (arg8.view.read (Elt Ideal) G8)) (emb_Y (trips2 k) ch s j).symm)
    refine Eq.trans ?_ (yChunk_val 𝒱 c bd i arg1 harg1 arg2 harg2 arg3 harg3 arg4 harg4 arg5 harg5 arg6 harg6 arg7 harg7 arg8 harg8 X3 X4 G7 G8 k ch s j)
    show shapeCast S8x256 (yChunk (F := Ideal) _ _ _) shapeCasts_S8x256_S8x256 (ix2 s j) = _
    pointwise
  · obtain ⟨r, q, rfl⟩ : ∃ r q, y = ix2 r q := ⟨y 0, y 1, eq_ix2 y⟩
    have hr : r.val < 128 := r.isLt
    have hg : r.val / 8 < k0_t2_loop.trips := by rw [trips2_eq]; omega
    refine ⟨_, (mem_pb2_y 𝒱 c bd i arg1 harg1 arg2 harg2 arg3 harg3 arg4 harg4 arg5 harg5 arg6 harg6 arg7 harg7 arg8 harg8 X3 X4 G7 G8 _ _ (le_refl _)).mpr ⟨⟨r.val / 8, hg⟩, hg, (mem_chain _ _ _ _).mpr ⟨⟨q.val / 256, by omega⟩, Fin.isLt _, rfl⟩⟩, ?_⟩
    refine mem_set_of_emb _ (ix2 (n0 := 8) (n1 := 256) ⟨r.val % 8, Nat.mod_lt _ (by decide)⟩ ⟨q.val % 256, Nat.mod_lt _ (by decide)⟩) ((emb_Y (trips2 ⟨r.val / 8, hg⟩) _ _ _).trans ?_)
    congr 1
    · exact Fin.ext (Nat.div_add_mod r.val 8)
    · exact Fin.ext (Nat.div_add_mod q.val 256)

theorem loop2_p :
    arg8.view.read (Elt Ideal) (arg8.view.writes (Elt Ideal) G8 (pb_k0_t2 (F := Ideal) 𝒱 c bd i arg1 harg1 arg2 harg2 arg3 harg3 arg4 harg4 arg5 harg5 arg6 harg6 arg7 harg7 arg8 harg8 X3 X4 G7 G8 k0_t2_loop.trips).2)
      = Mb (Yb (arg4.view.read (Elt Ideal) X4) (arg3.view.read (Elt Ideal) X3) (arg8.view.read (Elt Ideal) G8)) := by
  funext y
  refine View.read_writes_apply_of_pieces _ _ _ _ (fun p hp x => ?_) y ?_
  · obtain ⟨k, -, rfl⟩ := (mem_pb2_p 𝒱 c bd i arg1 harg1 arg2 harg2 arg3 harg3 arg4 harg4 arg5 harg5 arg6 harg6 arg7 harg7 arg8 harg8 X3 X4 G7 G8 p _ (le_refl _)).mp hp
    exact part2_val 𝒱 c bd i arg1 harg1 arg2 harg2 arg3 harg3 arg4 harg4 arg5 harg5 arg6 harg6 arg7 harg7 arg8 harg8 X3 X4 G7 G8 k x
  · obtain ⟨g, s, l, rfl⟩ : ∃ g s l, y = ix3 g s l := ⟨y 0, y 1, y 2, eq_ix3 y⟩
    have hg : g.val < k0_t2_loop.trips := by rw [trips2_eq]; exact g.isLt
    refine ⟨_, (mem_pb2_p 𝒱 c bd i arg1 harg1 arg2 harg2 arg3 harg3 arg4 harg4 arg5 harg5 arg6 harg6 arg7 harg7 arg8 harg8 X3 X4 G7 G8 _ _ (le_refl _)).mpr ⟨⟨g.val, hg⟩, hg, rfl⟩, ?_⟩
    exact mem_set_of_emb _ (ix3 (n0 := 1) (n1 := 8) (n2 := 128) 0 s l) (emb_P (trips2 ⟨g.val, hg⟩) _ _ _)

end L2

/-! ### The third loop -/

section L3

variable (X7 : BufTy.Contents (Elt Ideal) arg7.view.ty) (X8 : BufTy.Contents (Elt Ideal) arg8.view.ty)

theorem piece3_val (k : Fin k0_t3_loop.trips) (ch : Fin 128) (x : S32x128.Idx) :
    (piece3 arg7 arg8 X7 X8 (trips3 k) ch).2 x = Cb (arg7.view.read (Elt Ideal) X7) (arg8.view.read (Elt Ideal) X8) ((piece3 arg7 arg8 X7 X8 (trips3 k) ch).1.emb x) := by
  obtain ⟨r, j, rfl⟩ : ∃ r j, x = ix2 r j := ⟨x 0, x 1, eq_ix2 x⟩
  refine Eq.trans ?_ (congrArg (Cb (arg7.view.read (Elt Ideal) X7) (arg8.view.read (Elt Ideal) X8)) (emb_C (trips3 k) ch r j).symm)
  show codeChunk (F := Ideal) (ldY arg7 X7 (trips3 k) ch) (ldQ arg8 X8 (trips3 k)) (ix2 r j) = _
  have hk := trips3 k
  rw [codeChunk_apply]
  have e1 : ldY arg7 X7 (trips3 k) ch (ix2 r j) = arg7.view.read (Elt Ideal) X7 (ix2 ⟨32 * k.val + r.val, by omega⟩ (col' ch j)) :=
    congrArg (arg7.view.read (Elt Ideal) X7) (emb_C hk ch r j)
  have e2 : ldQ arg8 X8 (trips3 k) (ix3 ⟨r.val / 8, by omega⟩ ⟨r.val % 8, by omega⟩ j) = arg8.view.read (Elt Ideal) X8 (ix3 ⟨4 * k.val + r.val / 8, by omega⟩ ⟨r.val % 8, by omega⟩ j) :=
    congrArg (arg8.view.read (Elt Ideal) X8) (emb_Q hk _ _ j)
  rw [e1, e2]
  have e3 : ix3 (⟨4 * k.val + r.val / 8, by omega⟩ : Fin 16) (⟨r.val % 8, by omega⟩ : Fin 8) j = ix3 ⟨(32 * k.val + r.val) / 8, by omega⟩ ⟨(32 * k.val + r.val) % 8, Nat.mod_lt _ (by decide)⟩ ⟨(col' ch j).val % 128, Nat.mod_lt _ (by decide)⟩ := by
    congr 1
    · exact Fin.ext (by show 4 * k.val + r.val / 8 = (32 * k.val + r.val) / 8; omega)
    · exact Fin.ext (by show r.val % 8 = (32 * k.val + r.val) % 8; omega)
    · exact Fin.ext (by show j.val = (128 * ch.val + j.val) % 128; omega)
  rw [e3]
  rfl

theorem mem_pb3 (p) : ∀ n : ℕ, n ≤ k0_t3_loop.trips → (p ∈ (pb_k0_t3 (F := Ideal) 𝒱 c bd i arg1 harg1 arg2 harg2 arg3 harg3 arg4 harg4 arg5 harg5 arg6 harg6 arg7 harg7 arg8 harg8 (0#32) X7 X8 n)
    ↔ ∃ k : Fin k0_t3_loop.trips, k.val < n ∧ p ∈ chain (piece3 arg7 arg8 X7 X8 (trips3 k)) 128 (le_refl _))
  | 0, _ => by simp [pb_k0_t3]
  | n + 1, h => by
    have e := pb_k0_t3_succ (F := Ideal) 𝒱 c bd i arg1 harg1 arg2 harg2 arg3 harg3 arg4 harg4 arg5 harg5 arg6 harg6 arg7 harg7 arg8 harg8 (0#32) X7 X8 ⟨n, h⟩
    rw [e, List.mem_append]
    show p ∈ (trip_k0_t3 (F := Ideal) 𝒱 c bd i arg1 harg1 arg2 harg2 arg3 harg3 arg4 harg4 arg5 harg5 arg6 harg6 arg7 harg7 arg8 harg8 (0#32) X7 X8 ⟨n, h⟩).1 ∨ p ∈ pb_k0_t3 (F := Ideal) 𝒱 c bd i arg1 harg1 arg2 harg2 arg3 harg3 arg4 harg4 arg5 harg5 arg6 harg6 arg7 harg7 arg8 harg8 (0#32) X7 X8 n ↔ _
    rw [t3_c, mem_pb3 p n (Nat.le_of_succ_le h)]
    constructor
    · rintro (hp | ⟨k, hk, hp⟩)
      · exact ⟨⟨n, h⟩, Nat.lt_succ_self n, hp⟩
      · exact ⟨k, Nat.lt_succ_of_lt hk, hp⟩
    · rintro ⟨k, hk, hp⟩
      rcases Nat.lt_succ_iff_lt_or_eq.mp hk with hk | hk
      · exact .inr ⟨k, hk, hp⟩
      · obtain rfl : k = ⟨n, h⟩ := Fin.ext hk
        exact .inl hp

theorem loop3_c (G : BufTy.Contents (Elt Ideal) arg5.view.ty) :
    arg5.view.read (Elt Ideal) (arg5.view.writes (Elt Ideal) G (pb_k0_t3 (F := Ideal) 𝒱 c bd i arg1 harg1 arg2 harg2 arg3 harg3 arg4 harg4 arg5 harg5 arg6 harg6 arg7 harg7 arg8 harg8 (0#32) X7 X8 k0_t3_loop.trips))
      = Cb (arg7.view.read (Elt Ideal) X7) (arg8.view.read (Elt Ideal) X8) := by
  funext y
  refine View.read_writes_apply_of_pieces _ _ _ _ (fun p hp x => ?_) y ?_
  · obtain ⟨k, -, hp⟩ := (mem_pb3 𝒱 c bd i arg1 harg1 arg2 harg2 arg3 harg3 arg4 harg4 arg5 harg5 arg6 harg6 arg7 harg7 arg8 harg8 X7 X8 p _ (le_refl _)).mp hp
    obtain ⟨ch, -, rfl⟩ := (mem_chain _ _ _ _).mp hp
    exact piece3_val arg7 arg8 X7 X8 k ch x
  · obtain ⟨r, q, rfl⟩ : ∃ r q, y = ix2 r q := ⟨y 0, y 1, eq_ix2 y⟩
    have hr : r.val < 128 := r.isLt
    have hg : r.val / 32 < k0_t3_loop.trips := by rw [trips3_eq]; omega
    refine ⟨_, (mem_pb3 𝒱 c bd i arg1 harg1 arg2 harg2 arg3 harg3 arg4 harg4 arg5 harg5 arg6 harg6 arg7 harg7 arg8 harg8 X7 X8 _ _ (le_refl _)).mpr ⟨⟨r.val / 32, hg⟩, hg, (mem_chain _ _ _ _).mpr ⟨⟨q.val / 128, by omega⟩, Fin.isLt _, rfl⟩⟩, ?_⟩
    refine mem_set_of_emb _ (ix2 (n0 := 32) (n1 := 128) ⟨r.val % 32, Nat.mod_lt _ (by decide)⟩ ⟨q.val % 128, Nat.mod_lt _ (by decide)⟩) ((emb_C (trips3 ⟨r.val / 32, hg⟩) _ _ _).trans ?_)
    congr 1
    · exact Fin.ext (Nat.div_add_mod r.val 32)
    · exact Fin.ext (Nat.div_add_mod q.val 128)

end L3

end Lists

end Ideal

end Cert.KernelIdeal.Val
-- ==== Proof.Lanes.lean ====
/-
  Sums and maxima that the kernel takes lane by lane are sums and maxima over the row.
-/
module

public import proofs.«01_k».proof.Proof.Reads

@[expose] public section

noncomputable section

namespace Cert.Row

open Idealize.ShloMosaic Cert.KernelIdeal.Val

/-! ### Unrolled accumulations -/

theorem accum_sum {N : ℕ} (f : Fin N → EReal) : ∀ (n : ℕ) (h : n < N),
    accum (fun a b : EReal => a + b) f n h = ∑ c : Fin (n + 1), f ⟨c.val, Nat.lt_of_lt_of_le c.isLt h⟩
  | 0, h => by simp [accum]
  | n + 1, h => by
    rw [Fin.sum_univ_castSucc]
    exact congrArg (· + f ⟨n + 1, h⟩) (accum_sum f n (Nat.lt_of_succ_lt h))

theorem accum_max_le {N : ℕ} (f : Fin N → EReal) (b : EReal) : ∀ (n : ℕ) (h : n < N),
    accum (fun a b : EReal => max a b) f n h ≤ b ↔ ∀ c : Fin N, c.val ≤ n → f c ≤ b
  | 0, h => by
    constructor
    · intro hb c hc
      have : c = ⟨0, h⟩ := Fin.ext (by simpa using hc)
      exact this ▸ hb
    · exact fun hb => hb ⟨0, h⟩ le_rfl
  | n + 1, h => by
    show max (accum (fun a b : EReal => max a b) f n (Nat.lt_of_succ_lt h)) (f ⟨n + 1, h⟩) ≤ b ↔ _
    rw [max_le_iff, accum_max_le f b n]
    constructor
    · rintro ⟨h1, h2⟩ c hc
      rcases Nat.lt_or_ge c.val (n + 1) with hl | hl
      · exact h1 c (by omega)
      · have : c = ⟨n + 1, h⟩ := Fin.ext (by simp; omega)
        exact this ▸ h2
    · exact fun hb => ⟨fun c hc => hb c (by omega), hb _ le_rfl⟩

/-- A column is its pair of chunks, the half in it and the lane. -/
def colEquiv : Fin 128 × Fin 64 × Fin 2 ≃ Fin 16384 where
  toFun p := ⟨256 * p.2.1.val + 128 * p.2.2.val + p.1.val, by omega⟩
  invFun k := (⟨k.val % 128, by omega⟩, ⟨k.val / 256, by omega⟩, ⟨k.val / 128 % 2, by omega⟩)
  left_inv p := by
    obtain ⟨⟨l, hl⟩, ⟨c, hc⟩, ⟨h, hh⟩⟩ := p
    simp only [Prod.mk.injEq, Fin.mk.injEq]
    omega
  right_inv k := by
    apply Fin.ext
    simp only
    omega

theorem sum_lanes (f : Fin 16384 → EReal) :
    (∑ l : Fin 128, (accum (fun a b : EReal => a + b) (fun c => f (col c ⟨l.val, Nat.lt_of_lt_of_le l.isLt (by decide)⟩)) 63 (by decide)
      + accum (fun a b : EReal => a + b) (fun c => f (col c ⟨128 + l.val, Nat.add_lt_add_left l.isLt 128⟩)) 63 (by decide)))
      = ∑ k, f k := by
  simp only [accum_sum, ← Finset.sum_add_distrib]
  rw [← colEquiv.sum_comp, Fintype.sum_prod_type]
  refine Finset.sum_congr rfl fun l _ => ?_
  rw [Fintype.sum_prod_type]
  refine Finset.sum_congr rfl fun c _ => ?_
  rw [Fin.sum_univ_two]
  refine congrArg₂ (· + ·) (congrArg f (Fin.ext ?_)) (congrArg f (Fin.ext ?_))
  · show 256 * c.val + l.val = 256 * c.val + 128 * 0 + l.val; omega
  · show 256 * c.val + (128 + l.val) = 256 * c.val + 128 * 1 + l.val; omega

theorem max_lanes (b : EReal) (f : Fin 16384 → EReal) :
    Finset.fold max b (fun l : Fin 128 =>
      max (accum (fun a b : EReal => max a b) (fun c => f (col c ⟨l.val, Nat.lt_of_lt_of_le l.isLt (by decide)⟩)) 63 (by decide))
        (accum (fun a b : EReal => max a b) (fun c => f (col c ⟨128 + l.val, Nat.add_lt_add_left l.isLt 128⟩)) 63 (by decide)))
      Finset.univ = Finset.fold max b f Finset.univ := by
  refine eq_of_forall_ge_iff fun u => ?_
  rw [Finset.fold_max_le, Finset.fold_max_le]
  refine and_congr_right fun _ => ?_
  simp only [max_le_iff, accum_max_le]
  constructor
  · intro h k _
    have hk := h ⟨k.val % 128, Nat.mod_lt _ (by decide)⟩ (Finset.mem_univ _)
    by_cases hh : k.val / 128 % 2 = 0
    · have e : col ⟨k.val / 256, by omega⟩ ⟨k.val % 128, by omega⟩ = k := Fin.ext (by
        show 256 * (k.val / 256) + k.val % 128 = k.val; omega)
      exact e ▸ hk.1 ⟨k.val / 256, by omega⟩ (by show k.val / 256 ≤ 63; omega)
    · have e : col ⟨k.val / 256, by omega⟩ ⟨128 + k.val % 128, by omega⟩ = k := Fin.ext (by
        show 256 * (k.val / 256) + (128 + k.val % 128) = k.val; omega)
      exact e ▸ hk.2 ⟨k.val / 256, by omega⟩ (by show k.val / 256 ≤ 63; omega)
  · exact fun h l _ => ⟨fun c _ => h _ (Finset.mem_univ _), fun c _ => h _ (Finset.mem_univ _)⟩

end Cert.Row

end
-- ==== Proof.Body.lean ====
/-
  The kernel's body over the extended reals, one triple: handed its inputs' blocks it leaves the named contents in every
  window, and updates only its own rows of the scales.
-/
module

public import proofs.«01_k».proof.Proof.Reads
public import proofs.«01_k».proof.Proof.Gen.KernelIdeal.Frame
public import Idealize.ShloMosaic.Lib.VecWindow
public import Idealize.ShloMosaic.Lib.WritesUnit

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

section Spec

variable (x0 x1 : Vec Ideal S16x8x16384 .bf16) (x2 : Vec Ideal S1x16384 .f32)

/-- The inverse root mean squares, in every lane. -/
def Nb : Vec Ideal S16x8x128 .f32 := k0_pay509 (F := Ideal) (Pb x0 x1)

/-- The block's scaled rows. -/
def YB : Vec Ideal S128x16384 .f32 := Yb (Rb x0 x1) x2 (Nb x0 x1)

/-- The rows' largest magnitudes and the exponent fields of their scales. -/
def v18B : FVec Ideal S128x1 .f32 := k0_pay511 (F := Ideal) (Mb (YB x0 x1 x2))
def v30B : FVec Ideal S128 .f32 := k0_pay512 (F := Ideal) (Mb (YB x0 x1 x2))

/-- The inverse scales, in every lane. -/
def IB : Vec Ideal S16x8x128 .f32 := k0_pay515 (F := Ideal) (v18B x0 x1 x2) (v30B x0 x1 x2)

/-- The block's codes. -/
def CB : Vec Ideal S128x16384 .fp8e4m3 := Cb (YB x0 x1 x2) (IB x0 x1 x2)

/-- The block's scales, in every row. -/
def SB : FVec Ideal S4x128 .f32 := k0_pay516 (F := Ideal) (k0_pay514 (F := Ideal) (v18B x0 x1 x2) (v30B x0 x1 x2))

/-- The scales' window after step `t`: the step's 128 scales replace its own entries of what was there. -/
def S6 (t : ℕ) (sb : Vec Ideal S4x128 .f32) (d5 : Vec Ideal S4x2048 .f32) : Vec Ideal S4x2048 .f32 := fun y =>
  if (y 0).val = t / 16 ∧ (y 1).val / 128 = t % 16 then sb (ix2 (y 0) ⟨(y 1).val % 128, Nat.mod_lt _ (by decide)⟩) else d5 y

end Spec

/-! ## What the steps between the loops leave -/

section Between

variable (𝒱 : Variants) (c : Dev nD) (bd : Option 𝒱.V) (i : grid0.Coords) (arg1 : Memref sig .tc .vmem S16x8x16384 .bf16) (harg1 : arg1.IsWhole) (arg2 : Memref sig .tc .vmem S16x8x16384 .bf16) (harg2 : arg2.IsWhole) (arg3 : Memref sig .tc .vmem S1x16384 .f32) (harg3 : arg3.IsWhole) (arg4 : Memref sig .tc .vmem S16x8x16384 .bf16) (harg4 : arg4.IsWhole) (arg5 : Memref sig .tc .vmem S128x16384 .fp8e4m3) (harg5 : arg5.IsWhole) (arg6 : Memref sig .tc .vmem S4x2048 .f32) (harg6 : arg6.IsWhole) (arg7 : Memref sig .tc .vmem S128x16384 .f32) (harg7 : arg7.IsWhole) (arg8 : Memref sig .tc .vmem S16x8x128 .f32) (harg8 : arg8.IsWhole)

/-- The lanes' rectangle, all of it. -/
abbrev lanes : Rect S16x8x128 := Rect.unit ![0, 0, 0] S16x8x128.size inb_S16x8x128_S16x8x128_0_0_0

theorem read_lanes (G : BufTy.Contents (Elt Ideal) arg8.view.ty) (w : Vec Ideal S16x8x128 .f32) (L : List (View.Piece (Elt Ideal) S16x8x128 .f32)) :
    arg8.view.read (Elt Ideal) (arg8.view.writes (Elt Ideal) G (⟨lanes, w⟩ :: L)) = w := by
  funext y
  refine View.read_writes_cons_unit_of_mem arg8.view G _ w L y y rfl fun a => ?_
  fin_cases a <;> simp

variable {x0 x1 : Vec Ideal S16x8x16384 .bf16} {x2 : Vec Ideal S1x16384 .f32}

theorem lanes1 {f0 : BufTy.Contents (Elt Ideal) arg1.view.ty} {f1 : BufTy.Contents (Elt Ideal) arg2.view.ty} (hf0 : arg1.view.read (Elt Ideal) f0 = x0)
    (hf1 : arg2.view.read (Elt Ideal) f1 = x1) (fs1 G : BufTy.Contents (Elt Ideal) arg8.view.ty) (L : List (View.Piece (Elt Ideal) S16x8x128 .f32)) :
    arg8.view.read (Elt Ideal) (arg8.view.writes (Elt Ideal) G (⟨lanes, k0_pay509 (F := Ideal) (arg8.view.readAt (Elt Ideal) lanes.toLoadRect
      (arg8.view.writes (Elt Ideal) fs1 (pb_k0_t1 (F := Ideal) 𝒱 c bd i arg1 harg1 arg2 harg2 arg3 harg3 arg4 harg4 arg5 harg5 arg6 harg6 arg7 harg7 arg8 harg8 f0 f1 k0_t1_loop.trips).2))⟩ :: L)) = Nb x0 x1 := by
  rw [read_lanes, View.readAt_full, loop1_p, hf0, hf1]
  rfl

theorem rows2 {f2 : BufTy.Contents (Elt Ideal) arg3.view.ty} {X4 : BufTy.Contents (Elt Ideal) arg4.view.ty} {G8 : BufTy.Contents (Elt Ideal) arg8.view.ty}
    (hf2 : arg3.view.read (Elt Ideal) f2 = x2) (h4 : arg4.view.read (Elt Ideal) X4 = Rb x0 x1) (h8 : arg8.view.read (Elt Ideal) G8 = Nb x0 x1)
    (G7 : BufTy.Contents (Elt Ideal) arg7.view.ty) :
    arg7.view.read (Elt Ideal) (arg7.view.writes (Elt Ideal) G7 (pb_k0_t2 (F := Ideal) 𝒱 c bd i arg1 harg1 arg2 harg2 arg3 harg3 arg4 harg4 arg5 harg5 arg6 harg6 arg7 harg7 arg8 harg8 f2 X4 G7 G8 k0_t2_loop.trips).1) = YB x0 x1 x2 := by
  rw [loop2_y, hf2, h4, h8]
  rfl

theorem lanes2 {f2 : BufTy.Contents (Elt Ideal) arg3.view.ty} {X4 : BufTy.Contents (Elt Ideal) arg4.view.ty} {L : List (View.Piece (Elt Ideal) S16x8x128 .f32)}
    (hf2 : arg3.view.read (Elt Ideal) f2 = x2) (h4 : arg4.view.read (Elt Ideal) X4 = Rb x0 x1)
    (h8 : arg8.view.read (Elt Ideal) (arg8.view.writes (Elt Ideal) arg8.view.junk L) = Nb x0 x1) (G7 : BufTy.Contents (Elt Ideal) arg7.view.ty) :
    arg8.view.readCov ((pb_k0_t2 (F := Ideal) 𝒱 c bd i arg1 harg1 arg2 harg2 arg3 harg3 arg4 harg4 arg5 harg5 arg6 harg6 arg7 harg7 arg8 harg8 f2 X4 G7 (arg8.view.writes (Elt Ideal) arg8.view.junk L) k0_t2_loop.trips).2 ++ L) lanes.toLoadRect
      = Mb (YB x0 x1 x2) := by
  show arg8.view.readAt (Elt Ideal) lanes.toLoadRect (arg8.view.writes (Elt Ideal) arg8.view.junk (_ ++ L)) = _
  rw [View.readAt_full, View.writes_append, loop2_p, hf2, h4, h8]
  rfl

/-- Where a step's scales go: its own 128 columns. -/
theorem off195_eq : ∀ i : grid0.Coords, k0_off195 i = ![0, (i 0).val % 16 * 128] := by decide +kernel

/-- Which of the four rows a step writes. -/
theorem mask_word : ∀ t : Fin 64, ∀ r : Fin 4, ∀ l : Fin 128, k0_pay517 (BitVec.ofNat 32 t.val) (ix2 r l) = BitVec.ofBool (decide (r.val = t.val / 16)) := by
  intro t r l
  pointwise [k0_pay517]
  revert t r
  decide +kernel

theorem mem_mask (i : grid0.Coords) (r : Fin 4) (l : Fin 128) : ix2 r l ∈ IVec.on (k0_pay517 (BitVec.ofNat 32 (i 0).val)) ↔ r.val = (i 0).val / 16 := by
  rw [IVec.on, Finset.mem_filter, mask_word (i 0) r l]
  by_cases h : r.val = (i 0).val / 16 <;> simp [h]

theorem emb_S (i : grid0.Coords) (r : Fin 4) (l : Fin 128) :
    (Rect.unit (s := S4x2048) (k0_off195 i) S4x128.size (k0_off195_inb i)).emb (ix2 r l) = ix2 r ⟨(i 0).val % 16 * 128 + l.val, by omega⟩ := by
  refine Rect.emb_eq_of_coords _ _ _ fun a => ?_
  have := off195_eq i
  fin_cases a <;> simp [Rect.unit, this]

theorem scales {f5 : BufTy.Contents (Elt Ideal) arg6.view.ty} {d5 : Vec Ideal S4x2048 .f32} (hf5 : arg6.view.read (Elt Ideal) f5 = d5) (sb : Vec Ideal S4x128 .f32) :
    arg6.view.read (Elt Ideal) ((arg6.view.slice (Rect.unit (s := S4x2048) (k0_off195 i) S4x128.size (k0_off195_inb i))).write (Elt Ideal) f5 sb
      (IVec.on (k0_pay517 (BitVec.ofNat 32 (i 0).val)))) = S6 (i 0).val sb d5 := by
  subst hf5
  funext y
  obtain ⟨r, q, rfl⟩ : ∃ r q, y = ix2 r q := ⟨y 0, y 1, eq_ix2 y⟩
  have hr : r.val < 4 := r.isLt
  have hq : q.val < 2048 := q.isLt
  show _ = if r.val = (i 0).val / 16 ∧ q.val / 128 = (i 0).val % 16 then sb (ix2 r ⟨q.val % 128, _⟩) else _
  by_cases h : r.val = (i 0).val / 16 ∧ q.val / 128 = (i 0).val % 16
  · rw [if_pos h]
    have e : ix2 r q = (Rect.unit (s := S4x2048) (k0_off195 i) S4x128.size (k0_off195_inb i)).emb (ix2 r ⟨q.val % 128, Nat.mod_lt _ (by decide)⟩) := by
      rw [emb_S]
      congr 1
      exact Fin.ext (by show q.val = (i 0).val % 16 * 128 + q.val % 128; omega)
    refine (congrArg _ e).trans ?_
    exact View.read_slice_write_emb _ _ _ ((mem_mask i _ _).mpr h.1)
  · rw [if_neg h]
    refine View.read_slice_write_of_not_mem _ _ _ _ fun hm => h ?_
    obtain ⟨x, hx, e⟩ := Finset.mem_map.mp hm
    obtain ⟨r', l, rfl⟩ : ∃ r' l, x = ix2 (n0 := 4) (n1 := 128) r' l := ⟨x 0, x 1, eq_ix2 x⟩
    rw [emb_S] at e
    have e0 : r' = r := congrFun e 0
    have e1 : (i 0).val % 16 * 128 + l.val = q.val := congrArg Fin.val (congrFun e 1)
    have hl : l.val < 128 := l.isLt
    exact ⟨e0 ▸ (mem_mask i _ _).mp hx, by omega⟩

end Between

set_option maxHeartbeats 2000000 in
theorem kernelRun (c : Dev nD) (i : grid0.Coords) (arg1 : Memref sig .tc .vmem S16x8x16384 .bf16) (harg1 : arg1.IsWhole) (arg2 : Memref sig .tc .vmem S16x8x16384 .bf16) (harg2 : arg2.IsWhole) (arg3 : Memref sig .tc .vmem S1x16384 .f32) (harg3 : arg3.IsWhole) (arg4 : Memref sig .tc .vmem S16x8x16384 .bf16) (harg4 : arg4.IsWhole) (arg5 : Memref sig .tc .vmem S128x16384 .fp8e4m3) (harg5 : arg5.IsWhole) (arg6 : Memref sig .tc .vmem S4x2048 .f32) (harg6 : arg6.IsWhole) (arg7 : Memref sig .tc .vmem S128x16384 .f32) (harg7 : arg7.IsWhole) (arg8 : Memref sig .tc .vmem S16x8x128 .f32) (harg8 : arg8.IsWhole)
    (x0 : Vec Ideal S16x8x16384 .bf16) (x1 : Vec Ideal S16x8x16384 .bf16) (x2 : Vec Ideal S1x16384 .f32) (d5 : Vec Ideal S4x2048 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare d5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare (Rb x0 x1) ∗ owns (c : Thread nD τ) arg5 fullShare (CB x0 x1 x2) ∗ owns (c : Thread nD τ) arg6 fullShare (S6 (i 0).val (SB x0 x1 x2) d5) ∗ (∃ d, owns (c : Thread nD τ) arg7 fullShare d) ∗ (∃ d, owns (c : Thread nD τ) arg8 fullShare d)) -∗ K ⟨⟩))
          ⊢ wp frame (wpE (defs₀ (F := Ideal)) Variants.none c none) E (cc0_residual_rmsnorm_fp8 (F := Ideal) i arg1 harg1 arg2 harg2 arg3 harg3 arg4 harg4 arg5 harg5 arg6 harg6 arg7 harg7 arg8 harg8) K := by
    intro E K
    simp only [cc0_residual_rmsnorm_fp8_eq_skeleton]; unfold cc0_residual_rmsnorm_fp8_skel
    simp only [k0_part82_eq_skeleton, k0_part83_eq_skeleton, k0_part84_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%ds0, %fs0, -, HS0⟩, ⟨%ds1, %fs1, -, HS1⟩, Hk⟩
    have h4 : arg4.view.read (Elt Ideal) (arg4.view.writes (Elt Ideal) f3 (pb_k0_t1 (F := Ideal) Variants.none c none i arg1 harg1 arg2 harg2 arg3 harg3 arg4 harg4 arg5 harg5 arg6 harg6 arg7 harg7 arg8 harg8 f0 f1 k0_t1_loop.trips).1) = Rb x0 x1 :=
      (loop1_r Variants.none c none i arg1 harg1 arg2 harg2 arg3 harg3 arg4 harg4 arg5 harg5 arg6 harg6 arg7 harg7 arg8 harg8 f0 f1 f3).trans (by rw [hf0, hf1])
    have h8 := lanes1 Variants.none c none i arg1 harg1 arg2 harg2 arg3 harg3 arg4 harg4 arg5 harg5 arg6 harg6 arg7 harg7 arg8 harg8 hf0 hf1 fs1 arg8.view.junk (pb_k0_t1 (F := Ideal) Variants.none c none i arg1 harg1 arg2 harg2 arg3 harg3 arg4 harg4 arg5 harg5 arg6 harg6 arg7 harg7 arg8 harg8 f0 f1 k0_t1_loop.trips).2
    have hM := lanes2 Variants.none c none i arg1 harg1 arg2 harg2 arg3 harg3 arg4 harg4 arg5 harg5 arg6 harg6 arg7 harg7 arg8 harg8 hf2 h4 h8 fs0
    sl_exec
    sl_step
    iapply Hk
    sl_unfold_words
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; swap
      · iexact H3
      ipureintro
      exact h4
    isplitl [H4]
    · iexists _; isplitr; swap
      · iexact H4
      ipureintro
      refine (loop3_c _ _ _ _ _ _ _ _ _ _ _ _ _ _ _ _ _ _ _ _ _ _ _).trans ?_
      refine congrArg₂ Cb (rows2 _ _ _ _ _ _ _ _ _ _ _ _ _ _ _ _ _ _ _ _ hf2 h4 h8 _) ((read_lanes _ _ _ _).trans ?_)
      rfl
    isplitl [H5]
    · iexists _; isplitr; swap
      · iexact H5
      ipureintro
      exact scales _ _ hf5 _
    isplitl [HS0]
    · iexists _; iexists _; isplitr; swap
      · iexact HS0
      ipureintro; rfl
    · iexists _; iexists _; isplitr; swap
      · iexact HS1
      ipureintro; rfl

end Cert.KernelIdeal.Val
-- ==== Proof.KRow.lean ====
/-
  The kernel's block, a row at a time: what its codes and scales hold is the row's.
-/
module

public import proofs.«01_k».proof.Proof.Row
public import proofs.«01_k».proof.Proof.Lanes
public import proofs.«01_k».proof.Proof.Body
public import Idealize.ShloMosaic.Lib.Pointwise

@[expose] public section

set_option maxRecDepth 16384

noncomputable section

namespace Cert.KernelIdeal.Val

open Idealize.ShloMosaic Cert.Quant Cert.KernelIdeal Cert.KernelIdeal.Gen

variable (x0 x1 : Vec Ideal S16x8x16384 .bf16) (x2 : Vec Ideal S1x16384 .f32)

/-- Row `(p, q)` of the block's sum. -/
def krow (p : Fin 16) (q : Fin 8) : Fin 16384 → EReal := fun k => Rb x0 x1 (ix3 p q k)

/-- The weights. -/
def gam : Fin 16384 → EReal := fun k => x2 (ix2 0 k)

theorem pay509_at (v : Vec Ideal S16x8x128 .f32) (p : Fin 16) (q : Fin 8) (l : Fin 128) :
    k0_pay509 (F := Ideal) v (ix3 p q l)
      = Ideal.rsqrt ((∑ x : Fin 128, (v (ix3 p q x) : EReal)) * Ideal.ofBits .f32 0x38800000#32 + Ideal.ofBits .f32 0x358637BD#32) := by
  pointwise [k0_pay509]

theorem Nb_at (p : Fin 16) (q : Fin 8) (l : Fin 128) : Nb x0 x1 (ix3 p q l) = Row.inv (krow x0 x1 p q) := by
  unfold Nb
  rw [pay509_at, Row.mean_eq]
  unfold Row.inv
  rw [← Row.sum_lanes (fun k => krow x0 x1 p q k * krow x0 x1 p q k)]
  rfl

/-- Row `r` of the block, its group and its place in it. -/
abbrev hi (r : Fin 128) : Fin 16 := ⟨r.val / 8, by omega⟩
abbrev lo (r : Fin 128) : Fin 8 := ⟨r.val % 8, Nat.mod_lt _ (by decide)⟩

theorem YB_at (r : Fin 128) (k : Fin 16384) :
    YB x0 x1 x2 (ix2 r k) = Row.y (krow x0 x1 (hi r) (lo r)) (gam x2) k := by
  unfold YB Yb Row.y
  exact congrArg (fun z : EReal => krow x0 x1 (hi r) (lo r) k * z * gam x2 k) (Nb_at x0 x1 (hi r) (lo r) _)

theorem pay511_at (v : Vec Ideal S16x8x128 .f32) (r : Fin 128) (z : Fin 1) :
    k0_pay511 (F := Ideal) v (ix2 r z)
      = Finset.fold max (Ideal.ofBits .f32 0xFF800000#32) (fun l : Fin 128 => (v (ix3 (hi r) (lo r) l) : EReal)) Finset.univ := by
  pointwise [k0_pay511]

theorem rowmax_at (r : Fin 128) (z : Fin 1) :
    k0_pay511 (F := Ideal) (Mb (YB x0 x1 x2)) (ix2 r z) = Row.amax (krow x0 x1 (hi r) (lo r)) (gam x2) := by
  rw [pay511_at]
  unfold Row.amax
  rw [← Row.max_lanes]
  have hy : ∀ k, FloatOps.absf (F := Ideal) (φ := .f32) (Row.y (krow x0 x1 (hi r) (lo r)) (gam x2) k)
      = FloatOps.absf (F := Ideal) (φ := .f32) (YB x0 x1 x2 (ix2 r k)) := fun k => congrArg _ (YB_at x0 x1 x2 r k).symm
  simp only [hy]
  unfold Mb
  refine congrArg (fun f => Finset.fold max _ f Finset.univ) (funext fun l => ?_)
  have key : ∀ q : Fin 128, q = r →
      max (accum (fun a b : EReal => max a b) (fun c => (FloatOps.absf (F := Ideal) (φ := .f32) (YB x0 x1 x2 (ix2 q (col c ⟨l.val, Nat.lt_of_lt_of_le l.isLt (by decide)⟩))) : EReal)) 63 (by decide))
        (accum (fun a b : EReal => max a b) (fun c => (FloatOps.absf (F := Ideal) (φ := .f32) (YB x0 x1 x2 (ix2 q (col c ⟨128 + l.val, Nat.add_lt_add_left l.isLt 128⟩))) : EReal)) 63 (by decide))
      = max (accum (fun a b : EReal => max a b) (fun c => (FloatOps.absf (F := Ideal) (φ := .f32) (YB x0 x1 x2 (ix2 r (col c ⟨l.val, Nat.lt_of_lt_of_le l.isLt (by decide)⟩))) : EReal)) 63 (by decide))
        (accum (fun a b : EReal => max a b) (fun c => (FloatOps.absf (F := Ideal) (φ := .f32) (YB x0 x1 x2 (ix2 r (col c ⟨128 + l.val, Nat.add_lt_add_left l.isLt 128⟩))) : EReal)) 63 (by decide)) := by
    rintro _ rfl; rfl
  exact key ⟨8 * (r.val / 8) + r.val % 8, by omega⟩ (Fin.ext (by show 8 * (r.val / 8) + r.val % 8 = r.val; omega))

theorem pay512_at (v : Vec Ideal S16x8x128 .f32) (r : Fin 128) :
    k0_pay512 (F := Ideal) v (ix1 r)
      = Finset.fold max (Ideal.ofBits .f32 0xFF800000#32) (fun j : Fin 256 =>
          if Ideal.ofBits .f32 (word j.val) ≤ (k0_pay511 (F := Ideal) v (ix2 r 0) : EReal) * Ideal.ofBits .f32 0x3B124925#32
          then ((((BitVec.ofNat 32 j.val).toInt : ℤ) : ℝ) : EReal) else 0) Finset.univ := by
  pointwise [k0_pay512]
  rfl

theorem field_at (r : Fin 128) :
    k0_pay512 (F := Ideal) (Mb (YB x0 x1 x2)) (ix1 r) = ((Row.place (krow x0 x1 (hi r) (lo r)) (gam x2) : ℝ) : EReal) := by
  rw [pay512_at, rowmax_at]
  unfold Row.place
  rw [← max_fld (Row.v_nonneg _ _) _ (Row.bot_f32 ▸ bot_le)]
  refine congrArg (fun f => Finset.fold max _ f Finset.univ) (funext fun j => ?_)
  rw [ofBits_word _ j.isLt, sitofp_nat _ j.isLt]

theorem pay513_at (v18 : FVec Ideal S128x1 .f32) (v30 : FVec Ideal S128 .f32) (r : Fin 128) :
    k0_pay513 (F := Ideal) v18 v30 (ix2 r 0) = if (v18 (ix2 r 0) : EReal) = 0 then 0#32
      else Scalar.select (IntOp.ori (IntOp.cmpi .eq (Ideal.fptosi 32 (v30 (ix1 r))) 0#32)
          (IntOp.cmpi .eq (Ideal.fptosi 32 (v30 (ix1 r))) 255#32)) 0#32 (IntOp.subi (Ideal.fptosi 32 (v30 (ix1 r))) 126#32) := by
  pointwise [k0_pay513]
  rfl

theorem pay514_at (v18 : FVec Ideal S128x1 .f32) (v30 : FVec Ideal S128 .f32) (r : Fin 128) :
    k0_pay514 (F := Ideal) v18 v30 (ix2 r 0)
      = Ideal.ofBits .f32 (IntOp.shli .vector (IntOp.minsi 255#32 (IntOp.maxsi 0#32
          (IntOp.addi (k0_pay513 (F := Ideal) v18 v30 (ix2 r 0)) 127#32))) 23#32) := by
  pointwise [k0_pay514]

theorem pay515_at (v18 : FVec Ideal S128x1 .f32) (v30 : FVec Ideal S128 .f32) (r : Fin 128) (l : Fin 128) :
    k0_pay515 (F := Ideal) v18 v30 (ix3 (hi r) (lo r) l)
      = Ideal.ofBits .f32 (IntOp.shli .vector (IntOp.minsi 255#32 (IntOp.maxsi 0#32
          (IntOp.addi (IntOp.subi 0#32 (k0_pay513 (F := Ideal) v18 v30 (ix2 r 0))) 127#32))) 23#32) := by
  pointwise [k0_pay515]
  have hr : ∀ h, (⟨r.val / 8 * 8 + r.val % 8, h⟩ : Fin 128) = r := fun h => Fin.ext (by simp only; omega)
  rw [hr]

theorem pay516_at (v : FVec Ideal S128x1 .f32) (g : Fin 4) (r : Fin 128) : k0_pay516 (F := Ideal) v (ix2 g r) = v (ix2 r 0) := by
  pointwise [k0_pay516]

/-- The exponent's word. -/
theorem exponent_at (r : Fin 128) :
    k0_pay513 (F := Ideal) (v18B x0 x1 x2) (v30B x0 x1 x2) (ix2 r 0)
      = if Row.amax (krow x0 x1 (hi r) (lo r)) (gam x2) = 0 then 0#32
        else exw (Row.place (krow x0 x1 (hi r) (lo r)) (gam x2)) := by
  rw [pay513_at]
  unfold v18B v30B
  rw [rowmax_at, field_at]
  have h : Ideal.fptosi 32 ((Row.place (krow x0 x1 (hi r) (lo r)) (gam x2) : ℝ) : EReal)
      = BitVec.ofNat 32 (Row.place (krow x0 x1 (hi r) (lo r)) (gam x2)) := fptosi_of_lt (Row.place_lt _ _)
  rw [h]
  rfl

theorem SB_at (g : Fin 4) (r : Fin 128) : SB x0 x1 x2 (ix2 g r) = Row.scale (krow x0 x1 (hi r) (lo r)) (gam x2) := by
  unfold SB
  rw [pay516_at, pay514_at, exponent_at]
  unfold Row.scale Row.e
  split_ifs
  · exact (congrArg (Ideal.ofBits .f32) word_scale_zero).trans (ofBits_word _ (sfld_lt _))
  · rw [← ofBits_word _ (sfld_lt _)]
    exact congrArg (Ideal.ofBits .f32) (word_scale_of_lt (Row.place_lt _ _))

theorem IB_at (r : Fin 128) (l : Fin 128) : IB x0 x1 x2 (ix3 (hi r) (lo r) l) = Row.iscale (krow x0 x1 (hi r) (lo r)) (gam x2) := by
  unfold IB
  rw [pay515_at, exponent_at]
  unfold Row.iscale Row.e
  split_ifs
  · exact (congrArg (Ideal.ofBits .f32) word_inv_zero).trans (ofBits_word _ (ifld_lt _))
  · rw [← ofBits_word _ (ifld_lt _)]
    exact congrArg (Ideal.ofBits .f32) (word_inv_of_lt (Row.place_lt _ _))

theorem CB_at (r : Fin 128) (k : Fin 16384) : CB x0 x1 x2 (ix2 r k) = Row.code (krow x0 x1 (hi r) (lo r)) (gam x2) k := by
  unfold CB Cb Row.code
  refine congrArg (fun z : EReal => min (Ideal.ofBits .f32 0x43E00000#32) (max (Ideal.ofBits .f32 0xC3E00000#32) z)) ?_
  exact congrArg₂ (fun a b : EReal => a * b) (YB_at x0 x1 x2 r k) (IB_at x0 x1 x2 r _)

end Cert.KernelIdeal.Val

end
-- ==== Proof.RRow.lean ====
/-
  The reference's results, a row at a time.
-/
module

public import proofs.«01_k».proof.Proof.Row
public import proofs.«01_k».proof.Proof.Gen.ReferenceIdeal.Value
public import Idealize.ShloMosaic.Lib.Pointwise

@[expose] public section

set_option maxRecDepth 16384

noncomputable section

namespace Cert.ReferenceIdeal.Val

open Idealize.ShloMosaic Cert.Quant Cert.ReferenceIdeal Cert.ReferenceIdeal.Gen

variable (a0 a1 : Vec Ideal S4x2048x16384 .bf16) (a2 : Vec Ideal S16384 .f32)

/-- Row `(b, s)` of the sum. -/
def rrow (b : Fin 4) (s : Fin 2048) : Fin 16384 → EReal := fun k => a0 (ix3 b s k) + a1 (ix3 b s k)

/-- The weights. -/
def gam : Fin 16384 → EReal := fun k => a2 (ix1 k)

theorem pay6_at (b : Fin 4) (s : Fin 2048) (k : Fin 16384) :
    k0_pay6 (F := Ideal) a0 a1 a2 (ix3 b s k) = Row.y (rrow a0 a1 b s) (gam a2) k := by
  pointwise [k0_pay6, k0_pay5]
  rfl

theorem pay7_at (b : Fin 4) (s : Fin 2048) :
    k0_pay7 (F := Ideal) a0 a1 a2 (ix2 b s) = Row.amax (rrow a0 a1 b s) (gam a2) := by
  pointwise [k0_pay7]
  simp only [pay6_at]
  rfl

theorem scaled_at (q : FVec Ideal S4x2048 .f32) (z : Ideal .f32) (b : Fin 4) (s : Fin 2048) :
    mulf q (broadcast S4x2048 z) (ix2 b s) = (q (ix2 b s) * z : EReal) := by pointwise

theorem pay8_at (b : Fin 4) (s : Fin 2048) :
    k0_pay8 (F := Ideal) a0 a1 a2 (ix2 b s) = Row.amax (rrow a0 a1 b s) (gam a2) * Ideal.ofBits .f32 0x3B124925#32 := by
  rw [← pay7_at]
  exact scaled_at _ _ b s

/-- The count of the powers that a value reaches. -/
theorem count_at (q : FVec Ideal S4x2048 .f32) (z o n : Ideal .f32) (h1) (h2) (h3) (h4) (b : Fin 4) (s : Fin 2048) :
    multiReduction .add [2] S4x2048 (select (cmpf .oge (broadcastTo S4x2048x254 (shapeCast S4x2048x1 q h1 : FVec Ideal S4x2048x1 .f32) h2)
        (exp2 (subf (sitofp .f32 (iota .tc S4x2048x254 32 [2] h3)) (broadcast S4x2048x254 z) : FVec Ideal S4x2048x254 .f32)))
        (broadcast S4x2048x254 o) (broadcast S4x2048x254 n) : FVec Ideal S4x2048x254 .f32) 0x00000000#32 h4 (.inl rfl) rfl (ix2 b s)
      = ∑ x : Fin 254, if Ideal.exp2 ((((BitVec.ofNat 32 x.val).toInt : ℤ) : ℝ) - z) ≤ (q (ix2 b s) : EReal) then (o : EReal) else n := by
  pointwise
  rfl

theorem pay9_at (b : Fin 4) (s : Fin 2048) :
    k0_pay9 (F := Ideal) a0 a1 a2 (ix2 b s)
      = (∑ x : Fin 254, if Ideal.exp2 ((((BitVec.ofNat 32 x.val).toInt : ℤ) : ℝ) - Ideal.ofBits .f32 0x42FC0000#32) ≤
          (k0_pay8 (F := Ideal) a0 a1 a2 (ix2 b s) : EReal) then Ideal.ofBits .f32 0x3F800000#32 else Ideal.ofBits .f32 0x00000000#32)
          - Ideal.ofBits .f32 0x42FC0000#32 :=
  congrArg (fun x : EReal => x - Ideal.ofBits .f32 0x42FC0000#32) (count_at (k0_pay8 (F := Ideal) a0 a1 a2) _ _ _ _ _ _ _ b s)

theorem below_at (q : FVec Ideal S4x2048 .f32) (z : Ideal .f32) (b : Fin 4) (s : Fin 2048) :
    cmpf .olt q (broadcast S4x2048 z) (ix2 b s) = BitVec.ofBool (decide ((q (ix2 b s) : EReal) < z)) := by
  pointwise

theorem pay10_at (b : Fin 4) (s : Fin 2048) :
    k0_pay10 (F := Ideal) a0 a1 a2 (ix2 b s)
      = BitVec.ofBool (decide ((k0_pay8 (F := Ideal) a0 a1 a2 (ix2 b s) : EReal) < Ideal.ofBits .f32 0x00800000#32)) :=
  below_at _ _ b s

/-- The exponent: the reference's choice. -/
theorem pay1_at (v22 v24 v38 : FVec Ideal S4x2048 .f32) (v40 : IVec S4x2048 1) (z : Ideal .f32) (b : Fin 4) (s : Fin 2048) :
    k0_pay1 (F := Ideal) v22 v24 v38 v40 z (ix2 b s)
      = if (v22 (ix2 b s) : EReal) = 0 then (0 : EReal) else
        Scalar.select (IntOp.ori (v40 (ix2 b s)) (BitVec.ofBool (decide ((v24 (ix2 b s) : EReal) = z)))) (0 : EReal) (v38 (ix2 b s)) := by
  pointwise [k0_pay1]

theorem pay2_at (v22 v24 v38 : FVec Ideal S4x2048 .f32) (v40 : IVec S4x2048 1) (z : Ideal .f32) (b : Fin 4) (s : Fin 2048) :
    k0_pay2 (F := Ideal) v22 v24 v38 v40 z (ix2 b s)
      = if Ideal.ofBits .f32 0x42FE0000#32 < (k0_pay1 (F := Ideal) v22 v24 v38 v40 z (ix2 b s) : EReal) then Ideal.ofBits .f32 0x7F800000#32
        else Ideal.exp2 (k0_pay1 (F := Ideal) v22 v24 v38 v40 z (ix2 b s)) := by
  unfold k0_pay2
  generalize k0_pay1 (F := Ideal) v22 v24 v38 v40 z = q
  pointwise
  rfl

theorem pay4_at (v20 : FVec Ideal S4x2048x16384 .f32) (v22 v24 v38 : FVec Ideal S4x2048 .f32) (v40 : IVec S4x2048 1) (z : Ideal .f32) (b : Fin 4) (s : Fin 2048)
    (k : Fin 16384) (r : Fin 8192) (hb : r.val / 2048 = b.val) (hs : r.val % 2048 = s.val) :
    k0_pay4 (F := Ideal) v20 v22 v24 v38 v40 z (ix2 r k)
      = min (Ideal.ofBits .f32 0x43E00000#32) (max (Ideal.ofBits .f32 0xC3E00000#32)
        ((v20 (ix3 b s k) : EReal) * if Ideal.ofBits .f32 0x42FC0000#32 < (k0_pay1 (F := Ideal) v22 v24 v38 v40 z (ix2 b s) : EReal) then 0
        else Ideal.exp2 (0 - k0_pay1 (F := Ideal) v22 v24 v38 v40 z (ix2 b s)))) := by
  unfold k0_pay4
  generalize k0_pay1 (F := Ideal) v22 v24 v38 v40 z = q
  pointwise
  have e1 : ∀ h, (⟨r.val / 2048, h⟩ : Fin 4) = b := fun h => Fin.ext hb
  have e2 : ∀ h, (⟨r.val % 2048, h⟩ : Fin 2048) = s := fun h => Fin.ext hs
  rw [e1, e2]
  rfl

end Cert.ReferenceIdeal.Val

end
-- ==== Proof.RVal.lean ====
/-
  The reference's results, a row at a time: its exponent is the row's, so its scales and codes are.
-/
module

public import proofs.«01_k».proof.Proof.RRow

@[expose] public section

set_option maxRecDepth 16384

noncomputable section

namespace Cert.ReferenceIdeal.Val

open Idealize.ShloMosaic Cert.Quant Cert.ReferenceIdeal Cert.ReferenceIdeal.Gen

theorem b_tiny : Ideal.ofBits .f32 0x00800000#32 = pw 1 := ieee_parts 0x00800000#32 1 (by decide) (by decide) (by decide)
theorem b_top : Ideal.ofBits .f32 0x7F800000#32 = ⊤ := (ieee_parts 0x7F800000#32 255 (by decide) (by decide) (by decide)).trans (by simp [pw])
theorem b_one : Ideal.ofBits .f32 0x3F800000#32 = 1 := (ieee_parts 0x3F800000#32 127 (by decide) (by decide) (by decide)).trans (by simp [pw])
theorem b_zero : Ideal.ofBits .f32 0x00000000#32 = 0 := (ieee_parts 0x00000000#32 0 (by decide) (by decide) (by decide)).trans (by simp [pw])
theorem b_126 : Ideal.ofBits .f32 0x42FC0000#32 = ((126 : ℝ) : EReal) := by
  simp [Ideal.ofBits, Ideal.ieee]
  rw [← EReal.coe_mul]; congr 1; norm_num
theorem b_127 : Ideal.ofBits .f32 0x42FE0000#32 = ((127 : ℝ) : EReal) := by
  simp [Ideal.ofBits, Ideal.ieee]
  rw [← EReal.coe_mul]; congr 1; norm_num

/-- The power that the reference compares with. -/
theorem power_eq (x : Fin 254) :
    Ideal.exp2 ((((BitVec.ofNat 32 x.val).toInt : ℤ) : ℝ) - Ideal.ofBits .f32 0x42FC0000#32) = pw (x.val + 1) := by
  rw [b_126, sitofp_nat _ (by omega), pw_eq (by omega) (by omega), ← EReal.coe_sub]
  congr 2
  push_cast
  ring

/-- The reference's choice of an exponent. -/
theorem exponent (A v : EReal) (hv : 0 ≤ v) :
    (if A = 0 then (0 : EReal) else
        Scalar.select (IntOp.ori (BitVec.ofBool (decide (v < Ideal.ofBits .f32 0x00800000#32))) (BitVec.ofBool (decide (v = Ideal.ofBits .f32 0x7F800000#32)))) (0 : EReal)
          ((∑ x : Fin 254, if Ideal.exp2 ((((BitVec.ofNat 32 x.val).toInt : ℤ) : ℝ) - Ideal.ofBits .f32 0x42FC0000#32) ≤ v
            then Ideal.ofBits .f32 0x3F800000#32 else Ideal.ofBits .f32 0x00000000#32) - Ideal.ofBits .f32 0x42FC0000#32))
      = (((if A = 0 then 0 else ex (fld v) : ℤ) : ℝ) : EReal) := by
  by_cases hA : A = 0
  · rw [if_pos hA, if_pos hA]; simp
  rw [if_neg hA, if_neg hA]
  simp only [power_eq, b_one, b_zero, b_tiny, b_top]
  rw [count_fld hv, b_126]
  have hn := fld_lt v
  have h1 : v < pw 1 ↔ fld v = 0 := by
    rw [← not_le, pw_le_iff hv (by norm_num)]; omega
  have h2 : v = ⊤ ↔ fld v = 255 := by
    rw [← pw_top_le, pw_le_iff hv (by norm_num)]; omega
  simp only [h1, h2]
  by_cases c1 : fld v = 0
  · rw [c1]; simp [ex, Scalar.select, IntOp.ori]
  by_cases c2 : fld v = 255
  · rw [c2]; simp [ex, Scalar.select, IntOp.ori]
  have hx : ex (fld v) = (fld v : ℤ) - 126 := by unfold ex; rw [if_neg (by omega)]
  have hm : min (fld v) 254 = fld v := by omega
  rw [hx, hm]
  simp only [c1, c2, decide_false]
  show (if (BitVec.ofBool false ||| BitVec.ofBool false) = 1#1 then (0 : EReal) else _) = _
  rw [if_neg (by decide), ← EReal.coe_sub]
  congr 1
  push_cast
  rfl

variable (a0 a1 : Vec Ideal S4x2048x16384 .bf16) (a2 : Vec Ideal S16384 .f32)

theorem e_at (b : Fin 4) (s : Fin 2048) :
    k0_pay1 (F := Ideal) (k0_pay7 a0 a1 a2) (k0_pay8 a0 a1 a2) (k0_pay9 a0 a1 a2) (k0_pay10 a0 a1 a2) (Ideal.ofBits .f32 0x7F800000#32) (ix2 b s)
      = ((Row.e (rrow a0 a1 b s) (gam a2) : ℝ) : EReal) := by
  rw [pay1_at, pay7_at, pay9_at, pay10_at, pay8_at]
  exact exponent _ _ (Row.v_nonneg _ _)

theorem scale_at (b : Fin 4) (s : Fin 2048) :
    k0_pay2 (F := Ideal) (k0_pay7 a0 a1 a2) (k0_pay8 a0 a1 a2) (k0_pay9 a0 a1 a2) (k0_pay10 a0 a1 a2) (Ideal.ofBits .f32 0x7F800000#32) (ix2 b s)
      = Row.scale (rrow a0 a1 b s) (gam a2) := by
  rw [pay2_at, e_at, b_127, b_top]
  exact (scale_eq (Row.e_bounds _ _)).symm

theorem code_at (b : Fin 4) (s : Fin 2048) (k : Fin 16384) (r : Fin 8192) (hb : r.val / 2048 = b.val) (hs : r.val % 2048 = s.val) :
    k0_pay4 (F := Ideal) (k0_pay6 a0 a1 a2) (k0_pay7 a0 a1 a2) (k0_pay8 a0 a1 a2) (k0_pay9 a0 a1 a2) (k0_pay10 a0 a1 a2) (Ideal.ofBits .f32 0x7F800000#32) (ix2 r k)
      = Row.code (rrow a0 a1 b s) (gam a2) k := by
  rw [pay4_at _ _ _ _ _ _ b s k r hb hs, e_at, b_126, pay6_at]
  unfold Row.code Row.iscale
  rw [inv_eq (Row.e_bounds _ _)]

theorem cast_at (q : FVec Ideal S4x2048x16384 .bf16) (b : Fin 4) (s : Fin 2048) (k : Fin 16384) (p : Fin 1024) (j : Fin 8) (hb : (p.val * 8 + j.val) / 2048 = b.val)
    (hs : (p.val * 8 + j.val) % 2048 = s.val) : k0_pay3 (F := Ideal) q (ix3 p j k) = q (ix3 b s k) := by
  pointwise [k0_pay3]
  have e1 : ∀ h, (⟨p.val / 256, h⟩ : Fin 4) = b := fun h => Fin.ext (by show p.val / 256 = b.val; omega)
  have e2 : ∀ h, (⟨p.val % 256 * 8 + j.val, h⟩ : Fin 2048) = s := fun h => Fin.ext (by show p.val % 256 * 8 + j.val = s.val; omega)
  rw [e1, e2]

theorem add_at (q r : FVec Ideal S4x2048x16384 .bf16) (i : S4x2048x16384.Idx) : k0_pay5 (F := Ideal) q r i = (q i + r i : EReal) := rfl

open Cert.ReferenceIdeal.Value in
theorem G3_at (b : Fin 4) (s : Fin 2048) (k : Fin 16384) (p : Fin 1024) (j : Fin 8) (hb : (p.val * 8 + j.val) / 2048 = b.val)
    (hs : (p.val * 8 + j.val) % 2048 = s.val) : G3 (F := Ideal) a0 a1 a2 (ix3 p j k) = (a0 (ix3 b s k) + a1 (ix3 b s k) : EReal) :=
  (cast_at (k0_pay5 (F := Ideal) a0 a1) b s k p j hb hs).trans (add_at a0 a1 _)

theorem ld0 (x : Vec Ideal S4x2048x16384 .bf16) : View.ld x r0_0 = x := View.ld_unit_zero (S := S4x2048x16384) Value.hz0 _ x
theorem ld1 (x : Vec Ideal S16384 .f32) : View.ld x r0_1 = x := View.ld_unit_zero (S := S16384) Value.hz2 _ x

theorem pay11_eq : k0_pay11 (F := Ideal) a0 a1 a2 = k0_pay7 a0 a1 a2 := by unfold k0_pay11; rw [ld0, ld0, ld1]
theorem pay12_eq : k0_pay12 (F := Ideal) a0 a1 a2 = k0_pay8 a0 a1 a2 := by unfold k0_pay12; rw [ld0, ld0, ld1]
theorem pay13_eq : k0_pay13 (F := Ideal) a0 a1 a2 = k0_pay9 a0 a1 a2 := by unfold k0_pay13; rw [ld0, ld0, ld1]
theorem pay14_eq : k0_pay14 (F := Ideal) a0 a1 a2 = k0_pay10 a0 a1 a2 := by unfold k0_pay14; rw [ld0, ld0, ld1]

theorem G4_at (b : Fin 4) (s : Fin 2048) (k : Fin 16384) (r : Fin 8192) (hb : r.val / 2048 = b.val) (hs : r.val % 2048 = s.val) :
    Value.G4 (F := Ideal) a0 a1 a2 (ix2 r k) = Row.code (rrow a0 a1 b s) (gam a2) k := by
  unfold Value.G4
  rw [pay11_eq, pay12_eq, pay13_eq, pay14_eq]
  exact code_at a0 a1 a2 b s k r hb hs

theorem G5_at (b : Fin 4) (s : Fin 2048) : Value.G5 (F := Ideal) a0 a1 a2 (ix2 b s) = Row.scale (rrow a0 a1 b s) (gam a2) := by
  unfold Value.G5
  rw [pay11_eq, pay12_eq, pay13_eq, pay14_eq]
  exact scale_at a0 a1 a2 b s

end Cert.ReferenceIdeal.Val

end
-- ==== Proof.Run.lean ====
/-
  The kernel's run over the extended reals: at every step the body finds its inputs' blocks, leaves the sums and the codes
  of its block, and replaces its own scales among those it found; the launch, and what the result arrays hold at the end.
-/
module

public import proofs.«01_k».proof.Proof.Body
public import Idealize.ShloMosaic.Lib.Pipeline.ArrRel
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The inputs' blocks at a step. -/
abbrev b0 (c : Dev nD) (t : Fin cfg0.N) : Vec Ideal S16x8x16384 .bf16 := iblk m c 0 t
abbrev b1 (c : Dev nD) (t : Fin cfg0.N) : Vec Ideal S16x8x16384 .bf16 := iblk m c 1 t
abbrev b2 (c : Dev nD) (t : Fin cfg0.N) : Vec Ideal S1x16384 .f32 := iblk m c 2 t

/-- The arrays as the region finds them, and what each step leaves in every window but the scales'. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Rb (b0 m c t) (b1 m c t)
    | ⟨4, _⟩ => CB (b0 m c t) (b1 m c t) (b2 m c t)
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = Rb (b0 m c t) (b1 m c t) := by dsimp only [dats]
theorem after0_4 (c : Dev nD) (t : Fin cfg0.N) : (dats m 0 c).after 4 t = CB (b0 m c t) (b1 m c t) (b2 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The relation of the scales' window: what a step leaves is its own update of what it found. -/
def ovr (c : Dev nD) : (w : Fin cfg0.W) → Option (Fin cfg0.N → (Y X : (cfg0.win w).block.Idx → Elt Ideal (cfg0.win w).elt) → Prop)
  | ⟨0, _⟩ => none
  | ⟨1, _⟩ => none
  | ⟨2, _⟩ => none
  | ⟨3, _⟩ => none
  | ⟨4, _⟩ => none
  | ⟨5, _⟩ => some fun t (Y X : Vec Ideal S4x2048 .f32) => X = S6 t.val (SB (b0 m c t) (b1 m c t) (b2 m c t)) Y

/-- The proof data, the scales' window related and not named. -/
def rdat (c : Dev nD) : RDat τ (Elt Ideal) Unit ℕ (UR sig nD τ) ℕ cfg0 c := (dats m 0 c).toR.override (ovr m c)

theorem rdat_finds (c : Dev nD) {w : Fin cfg0.W} (h : ovr m c w = none) {t : Fin cfg0.N} {X} (hX : (rdat m c).Finds w t X) :
    ∃ d, X = (dats m 0 c).before w t d :=
  (dats m 0 c).toR_finds w t X (((dats m 0 c).toR.override_finds h t X).mp hX)

theorem rdat_after (c : Dev nD) {w : Fin cfg0.W} (h : ovr m c w = none) (t : Fin cfg0.N) (Y X) :
    (rdat m c).after w t Y X = (dats m 0 c).Leaves w t X :=
  congrFun (congrFun (congrFun ((dats m 0 c).toR.override_after_of_eq_none h) t) Y) X

theorem rdat_after5 (c : Dev nD) (t : Fin cfg0.N) (Y X : Vec Ideal S4x2048 .f32) :
    (rdat m c).after 5 t Y X = (X = S6 t.val (SB (b0 m c t) (b1 m c t) (b2 m c t)) Y) :=
  congrFun (congrFun (congrFun ((dats m 0 c).toR.override_after_of_eq_some (w := 5) (ovr := ovr m c) rfl) t) Y) X

/-- The two scratch memrefs. -/
abbrev scM0_0 : Memref sig .tc .vmem S128x16384 .f32 := Memref.whole cc0_scratch0
abbrev scM0_1 : Memref sig .tc .vmem S16x8x128 .f32 := Memref.whole cc0_scratch1

/-- The launch's invariant: the scratch memrefs at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- A window that is not the scales' may be left at the contents named for it. -/
theorem rdat_after_named (c : Dev nD) {w : Fin cfg0.W} (h : ovr m c w = none) (hl : (dats m 0 c).Leaves w = fun t X => X = (dats m 0 c).after w t) (t : Fin cfg0.N) (Y X)
    (hX : (dats m 0 c).after w t = X) : (rdat m c).after w t Y X := by
  rw [rdat_after m c h, hl]; exact hX.symm

theorem coords_val : ∀ t : Fin cfg0.N, (grid0.coords t 0).val = t.val := by decide +kernel

theorem defs₀_row (t : Fin cfg0.N) :
    defs₀ (F := Ideal) .tc cfg0.body (cfg0.bodyArgs t (cfg0.slots t)) = bodyAt0 t := by
  unfold defs₀; rw [Defs.onTc_tc]

set_option maxHeartbeats 800000 in
theorem body_obligation (c : Dev nD) : (rdat m c).BodyObligation (defs₀ (F := Ideal)) Variants.none () Set.univ := fun t Y hY => by
  obtain ⟨_, h0⟩ := rdat_finds m c (w := 0) rfl (hY 0)
  obtain ⟨_, h1⟩ := rdat_finds m c (w := 1) rfl (hY 1)
  obtain ⟨_, h2⟩ := rdat_finds m c (w := 2) rfl (hY 2)
  rw [before0_0] at h0
  rw [before0_1] at h1
  rw [before0_2] at h2
  rw [bigSep_W0, bigSep_W0, defs₀_row, h0, h1, h2]
  rw [show (rdat m c).Φ t.succ = Pipeline.ΦA spec0 c from rfl, show (rdat m c).Φ t.castSucc = Pipeline.ΦA spec0 c from rfl,
    show (rdat m c).owesAt () t.succ = (rdat m c).owesAt () t.castSucc from rfl, PhiA0_eq]
  unfold bodyAt0
  iintro ⟨⟨⟨HS0, HS1⟩, Hg⟩, Ho, H0, H1, H2, H3, H4, H5⟩
  iapply ((kernelRun c (grid0.coords t) _ _ _ _ _ _ _ _ _ _ _ _ _ _ _ _ (b0 m c t) (b1 m c t) (b2 m c t) (Y 5)) Set.univ _)
  isplitl [H0]; · iexact H0
  isplitl [H1]; · iexact H1
  isplitl [H2]; · iexact H2
  isplitl [H3]; · iexists _; iexact H3
  isplitl [H4]; · iexists _; iexact H4
  isplitl [H5]; · iexact H5
  isplitl [HS0]; · iexact HS0
  isplitl [HS1]; · iexact HS1
  iintro ⟨H0, H1, H2, H3, H4, H5, HS0, HS1⟩
  isplitl [HS0 HS1 Hg]
  · isplitl [HS0 HS1]
    · isplitl [HS0]
      · iexact HS0
      iexact HS1
    iexact Hg
  isplitl [Ho]; · iexact Ho
  isplitl [H0]
  · iexists _; isplitr; swap
    · iexact H0
    ipureintro; exact rdat_after_named m c rfl rfl t _ _ (after0_0 m c t)
  isplitl [H1]
  · iexists _; isplitr; swap
    · iexact H1
    ipureintro; exact rdat_after_named m c rfl rfl t _ _ (after0_1 m c t)
  isplitl [H2]
  · iexists _; isplitr; swap
    · iexact H2
    ipureintro; exact rdat_after_named m c rfl rfl t _ _ (after0_2 m c t)
  isplitl [H3]
  · iexists _; isplitr; swap
    · iexact H3
    ipureintro; exact rdat_after_named m c rfl rfl t _ _ (after0_3 m c t)
  isplitl [H4]
  · iexists _; isplitr; swap
    · iexact H4
    ipureintro; exact rdat_after_named m c rfl rfl t _ _ (after0_4 m c t)
  · iexists _; isplitr; swap
    · iexact H5
    ipureintro
    rw [coords_val]
    exact (rdat_after5 m c t _ _).mpr rfl

-- `θ_run_frame`'s implicit arguments are found by unifying its conclusion with this one
set_option backward.isDefEq.respectTransparency.types false in
/-- The launch. -/
theorem run_main : θ_run defs (onTc (τ := τ) (main (F := Ideal))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := body_obligation m) (hshare := fun c => (dats m 0 c).share_full fun _ => rfl)
    (howed := fun _ _ => rfl) (V := V m) (hmain := hmain m Variants.none) (hA := A_eq m) (hΦ := fun _ _ => rfl)

/-! ## The arrays at the end -/

/-- A step's 128 rows of an array of 8192. -/
def blkX (X : Vec Ideal S1024x8x16384 .bf16) (t : ℕ) : Vec Ideal S16x8x16384 .bf16 := fun y =>
  X (ix3 ⟨(t * 16 + (y 0).val) % 1024, Nat.mod_lt _ (by decide)⟩ (y 1) (y 2))

section Results

variable (X0 X1 : Vec Ideal S1024x8x16384 .bf16) (X2 : Vec Ideal S1x16384 .f32)

/-- The sums. -/
def R3 : Vec Ideal S1024x8x16384 .bf16 := fun i => (X0 i + X1 i : EReal)

/-- The codes. -/
def R4 : Vec Ideal S8192x16384 .fp8e4m3 := fun i =>
  CB (blkX X0 ((i 0).val / 128)) (blkX X1 ((i 0).val / 128)) X2 (ix2 ⟨(i 0).val % 128, Nat.mod_lt _ (by decide)⟩ (i 1))

/-- The scales. -/
def R5 : Vec Ideal S4x2048 .f32 := fun i =>
  SB (blkX X0 ((i 0).val * 16 + (i 1).val / 128)) (blkX X1 ((i 0).val * 16 + (i 1).val / 128)) X2 (ix2 (i 0) ⟨(i 1).val % 128, Nat.mod_lt _ (by decide)⟩)

end Results

/-- The inputs' arrays as the region finds them. -/
abbrev V0 (c : Dev nD) : Vec Ideal S1024x8x16384 .bf16 := V m c main_v0
abbrev V1 (c : Dev nD) : Vec Ideal S1024x8x16384 .bf16 := V m c main_v1
abbrev V2 (c : Dev nD) : Vec Ideal S1x16384 .f32 := V m c main_v2

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![0, 0] := by decide +kernel
theorem index3 : ∀ t : Fin cfg0.N, win0_3.index t = ![t.val, 0, 0] := by decide +kernel
theorem index4 : ∀ t : Fin cfg0.N, win0_4.index t = ![t.val, 0] := by decide +kernel

theorem b0_eq (c : Dev nD) (t : Fin cfg0.N) : b0 m c t = blkX (V0 m c) t.val := by
  funext y
  have ht : t.val < 64 := t.isLt
  have hy : (y 0).val < 16 := (y 0).isLt
  show V0 m c _ = V0 m c _
  congr 1
  funext a
  apply Fin.ext
  show win0_0.index t a * S16x8x16384.size a + 1 * (y a).val = _
  rw [index0]
  fin_cases a
  · show t.val * 16 + 1 * (y 0).val = (t.val * 16 + (y 0).val) % 1024
    omega
  · show 0 * 8 + 1 * (y 1).val = (y 1).val
    omega
  · show 0 * 16384 + 1 * (y 2).val = (y 2).val
    omega

theorem b1_eq (c : Dev nD) (t : Fin cfg0.N) : b1 m c t = blkX (V1 m c) t.val := by
  funext y
  have ht : t.val < 64 := t.isLt
  have hy : (y 0).val < 16 := (y 0).isLt
  show V1 m c _ = V1 m c _
  congr 1
  funext a
  apply Fin.ext
  show win0_1.index t a * S16x8x16384.size a + 1 * (y a).val = _
  rw [index1]
  fin_cases a
  · show t.val * 16 + 1 * (y 0).val = (t.val * 16 + (y 0).val) % 1024
    omega
  · show 0 * 8 + 1 * (y 1).val = (y 1).val
    omega
  · show 0 * 16384 + 1 * (y 2).val = (y 2).val
    omega

theorem b2_eq (c : Dev nD) (t : Fin cfg0.N) : b2 m c t = V2 m c := by
  funext y
  show V2 m c _ = V2 m c _
  congr 1
  funext a
  apply Fin.ext
  show win0_2.index t a * S1x16384.size a + 1 * (y a).val = _
  rw [index2]
  fin_cases a
  · show 0 * 1 + 1 * (y 0).val = (y 0).val
    omega
  · show 0 * 16384 + 1 * (y 1).val = (y 1).val
    omega

theorem covers3 : (cfg0.win 3).Covers := by decide +kernel
theorem covers4 : (cfg0.win 4).Covers := by decide +kernel

theorem final3 (c : Dev nD) : (dats m 0 c).arrAt 3 cfg0.N = R3 (V0 m c) (V1 m c) := by
  refine (dats m 0 c).arrAt_eq_of_covers 3 _ covers3 fun t _ y => ?_
  have ht : t.val < 64 := t.isLt
  have hy : (y 0).val < 16 := (y 0).isLt
  rw [after0_3, b0_eq, b1_eq]
  show (V0 m c _ + V1 m c _ : EReal) = V0 m c _ + V1 m c _
  congr 2
  all_goals
    funext a
    apply Fin.ext
    show _ = win0_3.index t a * S16x8x16384.size a + 1 * (y a).val
    rw [index3]
    fin_cases a
    · show (t.val * 16 + (y 0).val) % 1024 = t.val * 16 + 1 * (y 0).val
      omega
    · show (y 1).val = 0 * 8 + 1 * (y 1).val
      omega
    · show (y 2).val = 0 * 16384 + 1 * (y 2).val
      omega

theorem emb4 (t : Fin cfg0.N) (y : S128x16384.Idx) : ((cfg0.win 4).blk t).view.emb y = ix2 (n0 := 8192) (n1 := 16384) ⟨t.val * 128 + (y 0).val, by have ht : t.val < 64 := t.isLt; have hy : (y 0).val < 128 := (y 0).isLt; omega⟩ (y 1) := by
  funext a
  apply Fin.ext
  show win0_4.index t a * S128x16384.size a + 1 * (y a).val = _
  rw [index4]
  fin_cases a
  · show t.val * 128 + 1 * (y 0).val = t.val * 128 + (y 0).val
    omega
  · show 0 * 16384 + 1 * (y 1).val = (y 1).val
    omega

theorem R4_at (X0 X1 : Vec Ideal S1024x8x16384 .bf16) (X2 : Vec Ideal S1x16384 .f32) (t : ℕ) (ht : t < 64) (y : S128x16384.Idx) :
    R4 X0 X1 X2 (ix2 (n0 := 8192) (n1 := 16384) ⟨t * 128 + (y 0).val, by have hy : (y 0).val < 128 := (y 0).isLt; omega⟩ (y 1)) = CB (blkX X0 t) (blkX X1 t) X2 y := by
  have hy : (y 0).val < 128 := (y 0).isLt
  have h1 : (t * 128 + (y 0).val) / 128 = t := by omega
  have h2 : (t * 128 + (y 0).val) % 128 = (y 0).val := by omega
  show CB (blkX X0 ((t * 128 + (y 0).val) / 128)) (blkX X1 ((t * 128 + (y 0).val) / 128)) X2 (ix2 ⟨(t * 128 + (y 0).val) % 128, _⟩ (y 1)) = _
  rw [h1]
  congr 1
  refine Eq.trans ?_ (eq_ix2 y).symm
  congr 1
  exact Fin.ext h2

theorem final4 (c : Dev nD) : (dats m 0 c).arrAt 4 cfg0.N = R4 (V0 m c) (V1 m c) (V2 m c) := by
  refine (dats m 0 c).arrAt_eq_of_covers 4 _ covers4 fun t _ y => ?_
  rw [after0_4, b0_eq, b1_eq, b2_eq]
  exact (R4_at (V0 m c) (V1 m c) (V2 m c) t.val t.isLt y).symm.trans (congrArg _ (emb4 t y).symm)

theorem fetch0_5 : ∀ t : Fin cfg0.N, (cfg0.win 5).fetch t = false := by decide +kernel
theorem whole0_5 : (cfg0.win 5).WholeAt (⟨63, by decide⟩ : Fin cfg0.N) := by decide +kernel

/-- After step `t` the scales of all steps up to it are in place, whatever was there at first. -/
theorem leaves5 (c : Dev nD) : ∀ (n : ℕ) (h : n < cfg0.N) (X : Vec Ideal S4x2048 .f32), (rdat m c).Leaves 5 ⟨n, h⟩ X →
    ∀ i : S4x2048.Idx, (i 0).val * 16 + (i 1).val / 128 ≤ n → X i = R5 (V0 m c) (V1 m c) (V2 m c) i := by
  intro n
  induction n with
  | zero =>
    rintro h X ⟨Y, -, hX⟩ i hi
    rw [rdat_after5] at hX
    rw [hX, b0_eq, b1_eq, b2_eq]
    have e : 0 = (i 0).val * 16 + (i 1).val / 128 := by omega
    show (if (i 0).val = 0 / 16 ∧ (i 1).val / 128 = 0 % 16 then _ else _) = _
    rw [if_pos (by omega)]
    show SB (blkX _ 0) _ _ _ = SB (blkX _ _) _ _ _
    rw [← e]
  | succ n ih =>
    rintro h X ⟨Y, hY, hX⟩ i hi
    have hi1 : (i 1).val < 2048 := (i 1).isLt
    have hn : n + 1 < 64 := h
    rw [rdat_after5] at hX
    rw [hX, b0_eq, b1_eq, b2_eq]
    show (if (i 0).val = (n + 1) / 16 ∧ (i 1).val / 128 = (n + 1) % 16 then _ else _) = _
    by_cases e : n + 1 = (i 0).val * 16 + (i 1).val / 128
    · rw [if_pos (by omega)]
      show SB (blkX _ (n + 1)) _ _ _ = SB (blkX _ _) _ _ _
      rw [← e]
    · rw [if_neg (by omega)]
      refine ih (by omega) Y ?_ i (by omega)
      refine (((rdat m c).finds_of_pos (fetch0_5 _) (Nat.succ_ne_zero n) Y).mp hY).resolve_left fun hf => ?_
      have := (flush0_5 _).mp hf
      simp at this
      omega

theorem final5 (c : Dev nD) {G : Buf (Elt Ideal) ((cfg0.win 5).arr.view.loc (c.tc : Thread nD τ))} (hG : (rdat m c).ArrAt 5 cfg0.N G) :
    G = R5 (V0 m c) (V1 m c) (V2 m c) := by
  obtain ⟨X, hX, hj⟩ := hG.emb_eq_of_wholeAt whole0_5
  funext i
  have h0 : (i 0).val < 4 := (i 0).isLt
  have h1 : (i 1).val < 2048 := (i 1).isLt
  exact (hj i).trans (leaves5 m c 63 (by decide) X hX i (by omega))

/-- THE RUN: the results at the end, the arguments unchanged, every counter at zero. -/
theorem run : θ_run defs (onTc (τ := τ) (main (F := Ideal))) ⟨m, fun _ => 0, ρ⟩ (fun r => (∀ c : Dev nD,
      r.2.mem ((c.tc : Thread nD τ).loc main_v3_0) = R3 (V0 m c) (V1 m c)
      ∧ r.2.mem ((c.tc : Thread nD τ).loc main_v3_1) = R4 (V0 m c) (V1 m c) (V2 m c)
      ∧ r.2.mem ((c.tc : Thread nD τ).loc main_v3_2) = R5 (V0 m c) (V1 m c) (V2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs _ _).mono (fun r h => ⟨fun c => ⟨?_, ?_, ?_, ?_, ?_, ?_⟩, h.2⟩) (run_main m ρ)
  · exact ((dats m 0 c).toR_arrAt 3 _ _ (((dats m 0 c).toR.override_arrAt (ovr := ovr m c) rfl _ _).mp ((h.1 c).1 3))).trans (final3 m c)
  · exact ((dats m 0 c).toR_arrAt 4 _ _ (((dats m 0 c).toR.override_arrAt (ovr := ovr m c) rfl _ _).mp ((h.1 c).1 4))).trans (final4 m c)
  · exact final5 m c ((h.1 c).1 5)
  · exact ((h.1 c).2 main_arg0 (Pipeline.mem_restRefs_of main_arg0 (by decide) (by decide))).trans (V_main_arg0 m c)
  · exact ((h.1 c).2 main_arg1 (Pipeline.mem_restRefs_of main_arg1 (by decide) (by decide))).trans (V_main_arg1 m c)
  · exact ((h.1 c).2 main_arg2 (Pipeline.mem_restRefs_of main_arg2 (by decide) (by decide))).trans (V_main_arg2 m c)

end Cert.KernelIdeal.Val
-- ==== Proof.Entry.lean ====
/-
  What the kernel's region finds in its arrays: the arguments, reshaped.
-/
module

public import proofs.«01_k».proof.Proof.Run
public import Idealize.ShloMosaic.Lib.Pointwise

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable (m : (ℓ : Loc nD τ sig) → Buf (Elt Ideal) ℓ)

theorem V0_eq (c : Dev nD) : V0 m c = shapeCast S1024x8x16384 (m ((c.tc : Thread nD τ).loc main_arg0) : Vec Ideal S4x2048x16384 .bf16) shapeCasts_S4x2048x16384_S1024x8x16384 := by
  show StableHlo.after hostOps0 _ (Proc.devRef .tc main_v0) = _
  after_results
  rfl

theorem V1_eq (c : Dev nD) : V1 m c = shapeCast S1024x8x16384 (m ((c.tc : Thread nD τ).loc main_arg1) : Vec Ideal S4x2048x16384 .bf16) shapeCasts_S4x2048x16384_S1024x8x16384 := by
  show StableHlo.after hostOps0 _ (Proc.devRef .tc main_v1) = _
  after_results
  rfl

theorem V2_eq (c : Dev nD) : V2 m c = shapeCast S1x16384 (m ((c.tc : Thread nD τ).loc main_arg2) : Vec Ideal S16384 .f32) shapeCasts_S16384_S1x16384 := by
  show StableHlo.after hostOps0 _ (Proc.devRef .tc main_v2) = _
  after_results
  rfl

theorem cast3_at (q : Vec Ideal S4x2048x16384 .bf16) (b : Fin 4) (s : Fin 2048) (k : Fin 16384) (p : Fin 1024) (j : Fin 8) (hb : (p.val * 8 + j.val) / 2048 = b.val)
    (hs : (p.val * 8 + j.val) % 2048 = s.val) : shapeCast S1024x8x16384 q shapeCasts_S4x2048x16384_S1024x8x16384 (ix3 p j k) = q (ix3 b s k) := by
  pointwise
  have e1 : ∀ h, (⟨p.val / 256, h⟩ : Fin 4) = b := fun h => Fin.ext (by show p.val / 256 = b.val; omega)
  have e2 : ∀ h, (⟨p.val % 256 * 8 + j.val, h⟩ : Fin 2048) = s := fun h => Fin.ext (by show p.val % 256 * 8 + j.val = s.val; omega)
  rw [e1, e2]

theorem cast1_at (q : Vec Ideal S16384 .f32) (k : Fin 16384) : shapeCast S1x16384 q shapeCasts_S16384_S1x16384 (ix2 0 k) = q (ix1 k) := by
  pointwise

end Cert.KernelIdeal.Val

end
-- ==== Proof.Equal.lean ====
/-
  The kernel's results are the reference's: the same rows, found in the same places.
-/
module

public import proofs.«01_k».proof.Proof.KRow
public import proofs.«01_k».proof.Proof.RVal
public import proofs.«01_k».proof.Proof.Entry

@[expose] public section

set_option maxRecDepth 16384

noncomputable section

namespace Cert.Equal

open Idealize.ShloMosaic
open Cert.KernelIdeal (S1024x8x16384 S1x16384 S4x2048x16384 S16384)
open Cert.KernelIdeal.Gen (shapeCasts_S4x2048x16384_S1024x8x16384 shapeCasts_S16384_S1x16384)

variable (a0 a1 : Vec Ideal S4x2048x16384 .bf16) (a2 : Vec Ideal S16384 .f32)

/-- The arguments as the kernel's region finds them. -/
abbrev cX (a : Vec Ideal S4x2048x16384 .bf16) : Vec Ideal S1024x8x16384 .bf16 := shapeCast S1024x8x16384 a shapeCasts_S4x2048x16384_S1024x8x16384
abbrev cW (a : Vec Ideal S16384 .f32) : Vec Ideal S1x16384 .f32 := shapeCast S1x16384 a shapeCasts_S16384_S1x16384

theorem blk_at (a : Vec Ideal S4x2048x16384 .bf16) (t : ℕ) (ht : t < 64) (r : Fin 128) (b : Fin 4) (s : Fin 2048) (hb : (t * 128 + r.val) / 2048 = b.val)
    (hs : (t * 128 + r.val) % 2048 = s.val) (k : Fin 16384) :
    KernelIdeal.Val.blkX (cX a) t (ix3 (KernelIdeal.Val.hi r) (KernelIdeal.Val.lo r) k) = a (ix3 b s k) := by
  have e : ((t * 16 + r.val / 8) % 1024) * 8 + r.val % 8 = t * 128 + r.val := by omega
  exact KernelIdeal.Val.cast3_at a b s k ⟨(t * 16 + r.val / 8) % 1024, Nat.mod_lt _ (by decide)⟩ (KernelIdeal.Val.lo r)
    (by show (((t * 16 + r.val / 8) % 1024) * 8 + r.val % 8) / 2048 = _; rw [e, hb])
    (by show (((t * 16 + r.val / 8) % 1024) * 8 + r.val % 8) % 2048 = _; rw [e, hs])

theorem row_eq (t : ℕ) (ht : t < 64) (r : Fin 128) (b : Fin 4) (s : Fin 2048) (hb : (t * 128 + r.val) / 2048 = b.val) (hs : (t * 128 + r.val) % 2048 = s.val) :
    KernelIdeal.Val.krow (KernelIdeal.Val.blkX (cX a0) t) (KernelIdeal.Val.blkX (cX a1) t) (KernelIdeal.Val.hi r) (KernelIdeal.Val.lo r)
      = ReferenceIdeal.Val.rrow a0 a1 b s := by
  funext k
  exact congrArg₂ (fun x y : EReal => x + y) (blk_at a0 t ht r b s hb hs k) (blk_at a1 t ht r b s hb hs k)

theorem gam_eq : KernelIdeal.Val.gam (cW a2) = ReferenceIdeal.Val.gam a2 := by
  funext k
  exact KernelIdeal.Val.cast1_at a2 k

theorem sums : KernelIdeal.Val.R3 (cX a0) (cX a1) = ReferenceIdeal.Value.G3 (F := Ideal) a0 a1 a2 := by
  funext i
  obtain ⟨p, j, k, rfl⟩ : ∃ (p : Fin 1024) (j : Fin 8) (k : Fin 16384), i = ix3 p j k := ⟨i 0, i 1, i 2, eq_ix3 i⟩
  have hb : (p.val * 8 + j.val) / 2048 < 4 := by omega
  have hs : (p.val * 8 + j.val) % 2048 < 2048 := Nat.mod_lt _ (by decide)
  rw [ReferenceIdeal.Val.G3_at a0 a1 a2 ⟨_, hb⟩ ⟨_, hs⟩ k p j rfl rfl]
  exact congrArg₂ (fun x y : EReal => x + y) (KernelIdeal.Val.cast3_at a0 ⟨_, hb⟩ ⟨_, hs⟩ k p j rfl rfl) (KernelIdeal.Val.cast3_at a1 ⟨_, hb⟩ ⟨_, hs⟩ k p j rfl rfl)

theorem codes : KernelIdeal.Val.R4 (cX a0) (cX a1) (cW a2) = ReferenceIdeal.Value.G4 (F := Ideal) a0 a1 a2 := by
  funext i
  obtain ⟨r, k, rfl⟩ : ∃ (r : Fin 8192) (k : Fin 16384), i = ix2 r k := ⟨i 0, i 1, eq_ix2 i⟩
  have hb : r.val / 2048 < 4 := by omega
  have hs : r.val % 2048 < 2048 := Nat.mod_lt _ (by decide)
  have hr : r.val % 128 < 128 := Nat.mod_lt _ (by decide)
  have e : r.val / 128 * 128 + r.val % 128 = r.val := by omega
  rw [ReferenceIdeal.Val.G4_at a0 a1 a2 ⟨_, hb⟩ ⟨_, hs⟩ k r rfl rfl]
  refine (KernelIdeal.Val.CB_at _ _ _ ⟨r.val % 128, hr⟩ k).trans ?_
  rw [gam_eq]
  have h := row_eq a0 a1 (r.val / 128) (by omega) ⟨r.val % 128, hr⟩ ⟨_, hb⟩ ⟨_, hs⟩ (congrArg (· / 2048) e) (congrArg (· % 2048) e)
  exact congrArg (fun z => Row.code z (ReferenceIdeal.Val.gam a2) k) h

theorem scales : KernelIdeal.Val.R5 (cX a0) (cX a1) (cW a2) = ReferenceIdeal.Value.G5 (F := Ideal) a0 a1 a2 := by
  funext i
  obtain ⟨b, s, rfl⟩ : ∃ (b : Fin 4) (s : Fin 2048), i = ix2 b s := ⟨i 0, i 1, eq_ix2 i⟩
  have hr : s.val % 128 < 128 := Nat.mod_lt _ (by decide)
  have hb : ((b.val * 16 + s.val / 128) * 128 + s.val % 128) / 2048 = b.val := by omega
  have hs : ((b.val * 16 + s.val / 128) * 128 + s.val % 128) % 2048 = s.val := by omega
  rw [ReferenceIdeal.Val.G5_at a0 a1 a2 b s]
  refine (KernelIdeal.Val.SB_at _ _ _ b ⟨s.val % 128, hr⟩).trans ?_
  rw [gam_eq]
  have h := row_eq a0 a1 (b.val * 16 + s.val / 128) (by omega) ⟨s.val % 128, hr⟩ b s hb hs
  exact congrArg (fun z => Row.scale z (ReferenceIdeal.Val.gam a2)) h

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameBits
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed runs and leaves its arguments. -/
theorem kernel_frame : quiescent_Kernel := fun m g _ => Cert.Kernel.Run.run m g

/-- So does the kernel over the extended reals. -/
theorem ideal_frame : quiescent_KernelIdeal := fun m g _ =>
  (θ_run Cert.KernelIdeal.defs _ _).mono (fun _ h => ⟨fun c => (h.1 c).2.2.2, h.2⟩) (Cert.KernelIdeal.Val.run m g)

/-- The two programs' results agree. -/
theorem agree : algebraic_KernelIdeal_ReferenceIdeal := fun m g m' g' _ hm => by
  refine ⟨fun c => Cert.KernelIdeal.Val.R3 (Cert.KernelIdeal.Val.V0 m c) (Cert.KernelIdeal.Val.V1 m c),
    fun c => Cert.KernelIdeal.Val.R4 (Cert.KernelIdeal.Val.V0 m c) (Cert.KernelIdeal.Val.V1 m c) (Cert.KernelIdeal.Val.V2 m c),
    fun c => Cert.KernelIdeal.Val.R5 (Cert.KernelIdeal.Val.V0 m c) (Cert.KernelIdeal.Val.V1 m c) (Cert.KernelIdeal.Val.V2 m c),
    (θ_run Cert.KernelIdeal.defs _ _).mono (fun _ h => h.1) (Cert.KernelIdeal.Val.run m g),
    (θ_run Cert.ReferenceIdeal.defs _ _).mono (fun r h c => ?_) (Cert.ReferenceIdeal.Value.run m' g')⟩
  obtain ⟨e0, e1, e2⟩ := hm c
  obtain ⟨h0, h1, h2, h3⟩ := h c
  rw [e0, e1, e2] at h0 h1 h2
  refine ⟨h0.trans ?_, h1.trans ?_, h2.trans ?_, h3⟩
  · beta_reduce
    rw [Cert.KernelIdeal.Val.V0_eq, Cert.KernelIdeal.Val.V1_eq]
    exact (Cert.Equal.sums _ _ _).symm
  · beta_reduce
    rw [Cert.KernelIdeal.Val.V0_eq, Cert.KernelIdeal.Val.V1_eq, Cert.KernelIdeal.Val.V2_eq]
    exact (Cert.Equal.codes _ _ _).symm
  · beta_reduce
    rw [Cert.KernelIdeal.Val.V0_eq, Cert.KernelIdeal.Val.V1_eq, Cert.KernelIdeal.Val.V2_eq]
    exact (Cert.Equal.scales _ _ _).symm

theorem claim : Cert.Claim := ⟨Cert.Kernel.Gen.facts, Cert.KernelIdeal.Gen.facts, Cert.ReferenceIdeal.Gen.facts,
  kernel_frame, ideal_frame, fun m g _ => Cert.ReferenceIdeal.Gen.frame m g, trivial, agree⟩

end Cert.Proof

end
